-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v8_0)) (v1 : (c : Dev Cert.FfnOutIdeal.nD) → Buf (Elt Ideal) ((c.tc : Thread Cert.FfnOutIdeal.nD Cert.FfnOutIdeal.τ).loc Cert.FfnOutIdeal.main_v8_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v8_0) = v0 c
          ∧ r.2.mem ((c.tc : Thread Cert.FfnOutIdeal.nD Cert.FfnOutIdeal.τ).loc Cert.FfnOutIdeal.main_v8_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v39) = v0 c
          ∧ r.2.mem ((c.tc : Thread Cert.FfnOutRefIdeal.nD Cert.FfnOutRefIdeal.τ).loc Cert.FfnOutRefIdeal.main_v40) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_Merge_MergeIdeal : Prop :=
  True

def algebraic_MergeIdeal_MergeRefIdeal_on_real_rows [hMergeIdeal : Cert.MergeIdeal.Facts] [hMergeRefIdeal : Cert.MergeRefIdeal.Facts] [hOn_real_rows : Cert.On_real_rows.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8704, 2048]⟩ : Shape).Idx, (Cert.On_real_rows.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) i = 1#1 → r.2.mem ((c.tc : Thread Cert.MergeIdeal.nD Cert.MergeIdeal.τ).loc Cert.MergeIdeal.main_v16) i = v0 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8704, 2048]⟩ : Shape).Idx, (Cert.On_real_rows.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) i = 1#1 → r.2.mem ((c.tc : Thread Cert.MergeRefIdeal.nD Cert.MergeRefIdeal.τ).loc Cert.MergeRefIdeal.main_v60) i = v0 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v15_0)) (v1 : (c : Dev Cert.FfnInIdeal.nD) → Buf (Elt Ideal) ((c.tc : Thread Cert.FfnInIdeal.nD Cert.FfnInIdeal.τ).loc Cert.FfnInIdeal.main_v15_1)) (v2 : (c : Dev Cert.FfnInIdeal.nD) → Buf (Elt Ideal) ((c.tc : Thread Cert.FfnInIdeal.nD Cert.FfnInIdeal.τ).loc Cert.FfnInIdeal.main_v15_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v15_0) = v0 c
          ∧ r.2.mem ((c.tc : Thread Cert.FfnInIdeal.nD Cert.FfnInIdeal.τ).loc Cert.FfnInIdeal.main_v15_1) = v1 c
          ∧ r.2.mem ((c.tc : Thread Cert.FfnInIdeal.nD Cert.FfnInIdeal.τ).loc Cert.FfnInIdeal.main_v15_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v43) = v0 c
          ∧ r.2.mem ((c.tc : Thread Cert.FfnInRefIdeal.nD Cert.FfnInRefIdeal.τ).loc Cert.FfnInRefIdeal.main_v44) = v1 c
          ∧ r.2.mem ((c.tc : Thread Cert.FfnInRefIdeal.nD Cert.FfnInRefIdeal.τ).loc Cert.FfnInRefIdeal.main_v47) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v31)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v31) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v5) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hFfnOutRefIdeal : Cert.FfnOutRefIdeal.Facts) (hMerge : Cert.Merge.Facts) (hMergeIdeal : Cert.MergeIdeal.Facts) (hMergeRefIdeal : Cert.MergeRefIdeal.Facts) (hFfnIn : Cert.FfnIn.Facts) (hFfnInIdeal : Cert.FfnInIdeal.Facts) (hFfnInRefIdeal : Cert.FfnInRefIdeal.Facts) (hSsd : Cert.Ssd.Facts) (hSsdIdeal : Cert.SsdIdeal.Facts) (hSsdRefIdeal : Cert.SsdRefIdeal.Facts) (hOn_real_rows : Cert.On_real_rows.Facts),
    quiescent_Kernel (hKernel := hKernel)
    ∧ quiescent_KernelIdeal (hKernelIdeal := hKernelIdeal)
    ∧ quiescent_ReferenceIdeal (hReferenceIdeal := hReferenceIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Ssd (hSsd := hSsd)
    ∧ quiescent_SsdIdeal (hSsdIdeal := hSsdIdeal)
    ∧ quiescent_SsdRefIdeal (hSsdRefIdeal := hSsdRefIdeal)
    ∧ preserves_Kernel_KernelIdeal
    ∧ algebraic_KernelIdeal_ReferenceIdeal (hKernelIdeal := hKernelIdeal) (hReferenceIdeal := hReferenceIdeal)
    ∧ preserves_FfnOut_FfnOutIdeal
    ∧ algebraic_FfnOutIdeal_FfnOutRefIdeal (hFfnOutIdeal := hFfnOutIdeal) (hFfnOutRefIdeal := hFfnOutRefIdeal)
    ∧ preserves_Merge_MergeIdeal
    ∧ algebraic_MergeIdeal_MergeRefIdeal_on_real_rows (hMergeIdeal := hMergeIdeal) (hMergeRefIdeal := hMergeRefIdeal) (hOn_real_rows := hOn_real_rows)
    ∧ preserves_FfnIn_FfnInIdeal
    ∧ algebraic_FfnInIdeal_FfnInRefIdeal (hFfnInIdeal := hFfnInIdeal) (hFfnInRefIdeal := hFfnInRefIdeal)
    ∧ preserves_Ssd_SsdIdeal
    ∧ algebraic_SsdIdeal_SsdRefIdeal (hSsdIdeal := hSsdIdeal) (hSsdRefIdeal := hSsdRefIdeal)
-- ==== On_real_rows.lean ====
abbrev S8704x2048 : Shape := ⟨2, ![8704, 2048]⟩
abbrev S4x2048x1024 : Shape := ⟨3, ![4, 2048, 1024]⟩
abbrev S16x16x1024 : Shape := ⟨3, ![16, 16, 1024]⟩
abbrev S4x2048x2048 : Shape := ⟨3, ![4, 2048, 2048]⟩
abbrev S16x16x2048 : Shape := ⟨3, ![16, 16, 2048]⟩
abbrev S8704x13312 : Shape := ⟨2, ![8704, 13312]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S_ : Shape := ⟨0, ![]⟩

class Facts : Prop where
  bcast_S_S8704x2048 : S_.BroadcastsInDim S8704x2048 (![] : Fin 0 → Fin S8704x2048.rank)

variable [Facts]

def fn {F : FTy → Type} [FloatOps F] (main_arg0 : FVec F S8704x2048 .f32) (main_arg1 : FVec F S4x2048x1024 .bf16) (main_arg2 : FVec F S16x16x1024 .bf16) (main_arg3 : FVec F S4x2048x2048 .bf16) (main_arg4 : FVec F S16x16x2048 .bf16) (main_arg5 : FVec F S8704x13312 .f32) (main_arg6 : FVec F S1x4096 .f32) (main_arg7 : FVec F S1x1024x2048 .f32) (main_arg8 : FVec F S1x2048x2048 .f32) (main_arg9 : FVec F S1x2048x2048 .f32) (main_arg10 : FVec F S1x2048 .f32) (main_arg11 : FVec F S1x2048 .f32) : IVec S8704x2048 1 :=
  let main_v0 : IVec S8704x2048 32 := iotaInDim S8704x2048 32 0
  let main_c : IVec S_ 32 := constantI S_ 32 8448#32
  let main_v1 : IVec S8704x2048 32 := broadcastInDim S8704x2048 ![] bcast_S_S8704x2048 main_c
  let main_v2 : IVec S8704x2048 1 := cmpi .slt main_v0 main_v1
  main_v2
-- ==== Kernel.lean ====
abbrev S8704x2048 : Shape := ⟨2, ![8704, 2048]⟩
abbrev S1x2048x12768 : Shape := ⟨3, ![1, 2048, 12768]⟩
abbrev S2048x12768 : Shape := ⟨2, ![2048, 12768]⟩
abbrev S12768x2048 : Shape := ⟨2, ![12768, 2048]⟩
abbrev S3520x2048 : Shape := ⟨2, ![3520, 2048]⟩
abbrev S3072x2048 : Shape := ⟨2, ![3072, 2048]⟩
abbrev S96x2048 : Shape := ⟨2, ![96, 2048]⟩
abbrev S_ : Shape := ⟨0, ![]⟩
abbrev S32x2048 : Shape := ⟨2, ![32, 2048]⟩
abbrev S128x2048 : Shape := ⟨2, ![128, 2048]⟩
abbrev S256x2048 : Shape := ⟨2, ![256, 2048]⟩
abbrev S3584x2048 : Shape := ⟨2, ![3584, 2048]⟩
abbrev S512x2048 : Shape := ⟨2, ![512, 2048]⟩
abbrev S480x2048 : Shape := ⟨2, ![480, 2048]⟩
abbrev S1024x2048 : Shape := ⟨2, ![1024, 2048]⟩
abbrev S8704x13312 : Shape := ⟨2, ![8704, 13312]⟩
abbrev S1088x2048 : Shape := ⟨2, ![1088, 2048]⟩
abbrev S1088x1024 : Shape := ⟨2, ![1088, 1024]⟩

abbrev nBuf : Space → Nat
  | .hbm => 25
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S1x2048x12768, .f32⟩
  | .hbm, ⟨2, _⟩ => ⟨S8704x2048, .bf16⟩
  | .hbm, ⟨3, _⟩ => ⟨S2048x12768, .f32⟩
  | .hbm, ⟨4, _⟩ => ⟨S12768x2048, .f32⟩
  | .hbm, ⟨5, _⟩ => ⟨S12768x2048, .bf16⟩
  | .hbm, ⟨6, _⟩ => ⟨S3520x2048, .bf16⟩
  | .hbm, ⟨7, _⟩ => ⟨S3072x2048, .bf16⟩
  | .hbm, ⟨8, _⟩ => ⟨S96x2048, .bf16⟩
  | .hbm, ⟨9, _⟩ => ⟨S_, .bf16⟩
  | .hbm, ⟨10, _⟩ => ⟨S32x2048, .bf16⟩
  | .hbm, ⟨11, _⟩ => ⟨S128x2048, .bf16⟩
  | .hbm, ⟨12, _⟩ => ⟨S96x2048, .bf16⟩
  | .hbm, ⟨13, _⟩ => ⟨S_, .bf16⟩
  | .hbm, ⟨14, _⟩ => ⟨S32x2048, .bf16⟩
  | .hbm, ⟨15, _⟩ => ⟨S128x2048, .bf16⟩
  | .hbm, ⟨16, _⟩ => ⟨S256x2048, .bf16⟩
  | .hbm, ⟨17, _⟩ => ⟨S3584x2048, .bf16⟩
  | .hbm, ⟨18, _⟩ => ⟨S512x2048, .bf16⟩
  | .hbm, ⟨19, _⟩ => ⟨S32x2048, .bf16⟩
  | .hbm, ⟨20, _⟩ => ⟨S_, .bf16⟩
  | .hbm, ⟨21, _⟩ => ⟨S480x2048, .bf16⟩
  | .hbm, ⟨22, _⟩ => ⟨S512x2048, .bf16⟩
  | .hbm, ⟨23, _⟩ => ⟨S1024x2048, .bf16⟩
  | .hbm, ⟨24, _⟩ => ⟨S8704x13312, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1088x1024, .f32⟩
  | .local _ .vmem, ⟨6, _⟩ => ⟨S1088x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 8], ![false, false]⟩

def k0_cond1 (i : grid0.Coords) : BitVec 1 :=
  let arg0 : BitVec 32 := BitVec.ofNat 32 (i 0).val
  let c3_i32 : BitVec 32 := 3#32
  let v0 : BitVec 1 := Scalar.cmpi .ne arg0 c3_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c3_i32_0 : BitVec 32 := 3#32
  let v3 : BitVec 1 := Scalar.cmpi .eq arg0 c3_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c0_i32_1 : BitVec 32 := 0#32
  let v1 : BitVec 32 := Scalar.select v0 c0_i32_0 c0_i32_1
  let c1_i32 : BitVec 32 := 1#32
  let v2 : BitVec 1 := Scalar.cmpi .eq arg0 c1_i32
  let c64_i32 : BitVec 32 := 64#32
  let v3 : BitVec 32 := Scalar.select v2 c64_i32 v1
  let c2_i32 : BitVec 32 := 2#32
  let v4 : BitVec 1 := Scalar.cmpi .eq arg0 c2_i32
  let c128_i32 : BitVec 32 := 128#32
  let v5 : BitVec 32 := Scalar.select v4 c128_i32 v3
  let c4_i32 : BitVec 32 := 4#32
  let v6 : BitVec 1 := Scalar.cmpi .eq arg0 c4_i32
  let c542_i32 : BitVec 32 := 542#32
  let v7 : BitVec 32 := Scalar.select v6 c542_i32 v5
  let c5_i32 : BitVec 32 := 5#32
  let v8 : BitVec 1 := Scalar.cmpi .eq arg0 c5_i32
  let c606_i32 : BitVec 32 := 606#32
  let v9 : BitVec 32 := Scalar.select v8 c606_i32 v7
  let c6_i32 : BitVec 32 := 6#32
  let v10 : BitVec 1 := Scalar.cmpi .eq arg0 c6_i32
  let c670_i32 : BitVec 32 := 670#32
  let v11 : BitVec 32 := Scalar.select v10 c670_i32 v9
  let c7_i32 : BitVec 32 := 7#32
  let v12 : BitVec 1 := Scalar.cmpi .eq arg0 c7_i32
  let c734_i32 : BitVec 32 := 734#32
  let v13 : BitVec 32 := Scalar.select v12 c734_i32 v11
  let c8_i32 : BitVec 32 := 8#32
  let v14 : BitVec 1 := Scalar.cmpi .eq arg0 c8_i32
  let c220_i32 : BitVec 32 := 220#32
  let v15 : BitVec 32 := Scalar.select v14 c220_i32 v13
  let c9_i32 : BitVec 32 := 9#32
  let v16 : BitVec 1 := Scalar.cmpi .eq arg0 c9_i32
  let c284_i32 : BitVec 32 := 284#32
  let v17 : BitVec 32 := Scalar.select v16 c284_i32 v15
  let c10_i32 : BitVec 32 := 10#32
  let v18 : BitVec 1 := Scalar.cmpi .eq arg0 c10_i32
  let c348_i32 : BitVec 32 := 348#32
  let v19 : BitVec 32 := Scalar.select v18 c348_i32 v17
  let c11_i32 : BitVec 32 := 11#32
  let v20 : BitVec 1 := Scalar.cmpi .eq arg0 c11_i32
  let c412_i32 : BitVec 32 := 412#32
  let v21 : BitVec 32 := Scalar.select v20 c412_i32 v19
  let c12_i32 : BitVec 32 := 12#32
  let v22 : BitVec 1 := Scalar.cmpi .eq arg0 c12_i32
  let c476_i32 : BitVec 32 := 476#32
  let v23 : BitVec 32 := Scalar.select v22 c476_i32 v21
  let c16_i32 : BitVec 32 := 16#32
  let v24 : BitVec 32 := Scalar.muli v23 c16_i32
  let c0_i32_2 : BitVec 32 := 0#32
  let c0_i32_3 : BitVec 32 := 0#32
  ![v24.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8704x2048 : Shape := ⟨2, ![8704, 2048]⟩
abbrev S1x2048x12768 : Shape := ⟨3, ![1, 2048, 12768]⟩
abbrev S2048x12768 : Shape := ⟨2, ![2048, 12768]⟩
abbrev S8704x12768 : Shape := ⟨2, ![8704, 12768]⟩
abbrev S8704x3520 : Shape := ⟨2, ![8704, 3520]⟩
abbrev S8704x3072 : Shape := ⟨2, ![8704, 3072]⟩
abbrev S8704x32 : Shape := ⟨2, ![8704, 32]⟩
abbrev S8704x4096 : Shape := ⟨2, ![8704, 4096]⟩
abbrev S8704x96 : Shape := ⟨2, ![8704, 96]⟩
abbrev S8704x256 : Shape := ⟨2, ![8704, 256]⟩
abbrev S_ : Shape := ⟨0, ![]⟩
abbrev S8704x480 : Shape := ⟨2, ![8704, 480]⟩
abbrev S8704x13312 : Shape := ⟨2, ![8704, 13312]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x12768, .f32⟩
  | .hbm, ⟨2, _⟩ => ⟨S2048x12768, .f32⟩
  | .hbm, ⟨3, _⟩ => ⟨S8704x12768, .f32⟩
  | .hbm, ⟨4, _⟩ => ⟨S8704x3520, .f32⟩
  | .hbm, ⟨5, _⟩ => ⟨S8704x2048, .f32⟩
  | .hbm, ⟨6, _⟩ => ⟨S8704x3072, .f32⟩
  | .hbm, ⟨7, _⟩ => ⟨S8704x32, .f32⟩
  | .hbm, ⟨8, _⟩ => ⟨S8704x4096, .f32⟩
  | .hbm, ⟨9, _⟩ => ⟨S8704x3072, .f32⟩
  | .hbm, ⟨10, _⟩ => ⟨S8704x96, .f32⟩
  | .hbm, ⟨11, _⟩ => ⟨S8704x96, .f32⟩
  | .hbm, ⟨12, _⟩ => ⟨S8704x256, .f32⟩
  | .hbm, ⟨13, _⟩ => ⟨S_, .f32⟩
  | .hbm, ⟨14, _⟩ => ⟨S8704x32, .f32⟩
  | .hbm, ⟨15, _⟩ => ⟨S_, .f32⟩
  | .hbm, ⟨16, _⟩ => ⟨S8704x32, .f32⟩
  | .hbm, ⟨17, _⟩ => ⟨S_, .f32⟩
  | .hbm, ⟨18, _⟩ => ⟨S8704x480, .f32⟩
  | .hbm, ⟨19, _⟩ => ⟨S8704x13312, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FfnOut.lean ====
abbrev S8704x2048 : Shape := ⟨2, ![8704, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S8192x2048 : Shape := ⟨2, ![8192, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![18, 11], ![false, false]⟩

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let arg0 : BitVec 32 := BitVec.ofNat 32 (i 0).val
  let c0_i32_3 : BitVec 32 := 0#32
  let v7 : BitVec 1 := Scalar.cmpi .sgt arg0 c0_i32_3
  let c17_i32 : BitVec 32 := 17#32
  let v0 : BitVec 1 := Scalar.cmpi .slt arg0 c17_i32
  let v8 : BitVec 1 := Scalar.andi v7 v0
  let v9 : BitVec 1 := Scalar.andi v6 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c0_i32_5 : BitVec 32 := 0#32
  let v12 : BitVec 1 := Scalar.cmpi .eq arg1 c0_i32_5
  let arg0 : BitVec 32 := BitVec.ofNat 32 (i 0).val
  let c17_i32_6 : BitVec 32 := 17#32
  let v13 : BitVec 1 := Scalar.cmpi .eq arg0 c17_i32_6
  let v14 : BitVec 1 := Scalar.andi v12 v13
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c11_i32 : BitVec 32 := 11#32
  let v2 : BitVec 32 := Scalar.addi v1 c11_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== FfnOutRefIdeal.lean ====
abbrev S8704x2048 : Shape := ⟨2, ![8704, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S_ : Shape := ⟨0, ![]⟩
abbrev S2048x11264 : Shape := ⟨2, ![2048, 11264]⟩
abbrev S5632x2048 : Shape := ⟨2, ![5632, 2048]⟩
abbrev S8704x11264 : Shape := ⟨2, ![8704, 11264]⟩
abbrev S8704x5632 : Shape := ⟨2, ![8704, 5632]⟩
abbrev S2048 : Shape := ⟨1, ![2048]⟩
abbrev S8704 : Shape := ⟨1, ![8704]⟩
abbrev S8704x1 : Shape := ⟨2, ![8704, 1]⟩
abbrev S8192x2048 : Shape := ⟨2, ![8192, 2048]⟩
abbrev S512x2048 : Shape := ⟨2, ![512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S2048x11264, .f32⟩
  | .hbm, ⟨9, _⟩ => ⟨S5632x2048, .f32⟩
  | .hbm, ⟨10, _⟩ => ⟨S8704x11264, .f32⟩
  | .hbm, ⟨11, _⟩ => ⟨S8704x5632, .f32⟩
  | .hbm, ⟨12, _⟩ => ⟨S8704x5632, .f32⟩
  | .hbm, ⟨13, _⟩ => ⟨S8704x5632, .f32⟩
  | .hbm, ⟨14, _⟩ => ⟨S8704x5632, .f32⟩
  | .hbm, ⟨15, _⟩ => ⟨S_, .f32⟩
  | .hbm, ⟨16, _⟩ => ⟨S8704x5632, .f32⟩
  | .hbm, ⟨17, _⟩ => ⟨S8704x5632, .f32⟩
  | .hbm, ⟨18, _⟩ => ⟨S_, .f32⟩
  | .hbm, ⟨19, _⟩ => ⟨S8704x5632, .f32⟩
  | .hbm, ⟨20, _⟩ => ⟨S8704x5632, .f32⟩
  | .hbm, ⟨21, _⟩ => ⟨S8704x5632, .f32⟩
  | .hbm, ⟨22, _⟩ => ⟨S8704x5632, .f32⟩
  | .hbm, ⟨23, _⟩ => ⟨S8704x2048, .f32⟩
  | .hbm, ⟨24, _⟩ => ⟨S_, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S8704, .f32⟩
  | .hbm, ⟨32, _⟩ => ⟨S8704x1, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S_, .f32⟩
  | .hbm, ⟨40, _⟩ => ⟨S8704, .f32⟩
  | .hbm, ⟨41, _⟩ => ⟨S8704x1, .f32⟩
  | .hbm, ⟨42, _⟩ => ⟨S_, .f32⟩
  | .hbm, ⟨43, _⟩ => ⟨S8704x1, .f32⟩
  | .hbm, ⟨44, _⟩ => ⟨S8704x1, .f32⟩
  | .hbm, ⟨45, _⟩ => ⟨S8704x2048, .f32⟩
  | .hbm, ⟨46, _⟩ => ⟨S8704x2048, .f32⟩
  | .hbm, ⟨47, _⟩ => ⟨S_, .f32⟩
  | .hbm, ⟨48, _⟩ => ⟨S8704x1, .f32⟩
  | .hbm, ⟨49, _⟩ => ⟨S8704x1, .f32⟩
  | .hbm, ⟨50, _⟩ => ⟨S8704x1, .f32⟩
  | .hbm, ⟨51, _⟩ => ⟨S8704x2048, .f32⟩
  | .hbm, ⟨52, _⟩ => ⟨S8704x2048, .f32⟩
  | .hbm, ⟨53, _⟩ => ⟨S1x2048, .f32⟩
  | .hbm, ⟨54, _⟩ => ⟨S8704x2048, .f32⟩
  | .hbm, ⟨55, _⟩ => ⟨S8704x2048, .f32⟩
  | .hbm, ⟨56, _⟩ => ⟨S1x2048, .f32⟩
  | .hbm, ⟨57, _⟩ => ⟨S8704x2048, .f32⟩
  | .hbm, ⟨58, _⟩ => ⟨S8704x2048, .f32⟩
  | .hbm, ⟨59, _⟩ => ⟨S8192x2048, .f32⟩
  | .hbm, ⟨60, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Merge.lean ====
abbrev S8704x2048 : Shape := ⟨2, ![8704, 2048]⟩
abbrev S4x2048x1024 : Shape := ⟨3, ![4, 2048, 1024]⟩
abbrev S16x16x1024 : Shape := ⟨3, ![16, 16, 1024]⟩
abbrev S4x2048x2048 : Shape := ⟨3, ![4, 2048, 2048]⟩
abbrev S16x16x2048 : Shape := ⟨3, ![16, 16, 2048]⟩
abbrev S8704x13312 : Shape := ⟨2, ![8704, 13312]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x1024 : Shape := ⟨2, ![8192, 1024]⟩
abbrev S256x1024 : Shape := ⟨2, ![256, 1024]⟩
abbrev S8192x2048 : Shape := ⟨2, ![8192, 2048]⟩
abbrev S256x2048 : Shape := ⟨2, ![256, 2048]⟩
abbrev S4096 : Shape := ⟨1, ![4096]⟩
abbrev S1024x2048 : Shape := ⟨2, ![1024, 2048]⟩
abbrev S2048x2048 : Shape := ⟨2, ![2048, 2048]⟩
abbrev S2048 : Shape := ⟨1, ![2048]⟩
abbrev S256 : Shape := ⟨1, ![256]⟩
abbrev S256x1 : Shape := ⟨2, ![256, 1]⟩

abbrev nBuf : Space → Nat
  | .hbm => 29
  | .vmem => 21
  | .smem => 0
  | _ => 0

abbrev bufTy : (tb : Table) → Fin (tcTables nBuf tb) → BufTy
  | .hbm, ⟨0, _⟩ => ⟨S8704x2048, .f32⟩
  | .hbm, ⟨1, _⟩ => ⟨S4x2048x1024, .bf16⟩
  | .hbm, ⟨2, _⟩ => ⟨S16x16x1024, .bf16⟩
  | .hbm, ⟨3, _⟩ => ⟨S4x2048x2048, .bf16⟩
  | .hbm, ⟨4, _⟩ => ⟨S16x16x2048, .bf16⟩
  | .hbm, ⟨5, _⟩ => ⟨S8704x13312, .f32⟩
  | .hbm, ⟨6, _⟩ => ⟨S1x4096, .f32⟩
  | .hbm, ⟨7, _⟩ => ⟨S1x1024x2048, .f32⟩
  | .hbm, ⟨8, _⟩ => ⟨S1x2048x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S8192x1024, .bf16⟩
  | .hbm, ⟨13, _⟩ => ⟨S256x1024, .bf16⟩
  | .hbm, ⟨14, _⟩ => ⟨S8192x2048, .bf16⟩
  | .hbm, ⟨15, _⟩ => ⟨S256x2048, .bf16⟩
  | .hbm, ⟨16, _⟩ => ⟨S4096, .f32⟩
  | .hbm, ⟨17, _⟩ => ⟨S1x4096, .f32⟩
  | .hbm, ⟨18, _⟩ => ⟨S1024x2048, .f32⟩
  | .hbm, ⟨19, _⟩ => ⟨S1024x2048, .bf16⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S2048x2048, .bf16⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .bf16⟩
  | .local _ .vmem, ⟨15, _⟩ => ⟨S2048x2048, .bf16⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S8704x2048 : Shape := ⟨2, ![8704, 2048]⟩
abbrev S4x2048x1024 : Shape := ⟨3, ![4, 2048, 1024]⟩
abbrev S16x16x1024 : Shape := ⟨3, ![16, 16, 1024]⟩
abbrev S4x2048x2048 : Shape := ⟨3, ![4, 2048, 2048]⟩
abbrev S16x16x2048 : Shape := ⟨3, ![16, 16, 2048]⟩
abbrev S8704x13312 : Shape := ⟨2, ![8704, 13312]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x1024 : Shape := ⟨2, ![8192, 1024]⟩
abbrev S256x1024 : Shape := ⟨2, ![256, 1024]⟩
abbrev S_ : Shape := ⟨0, ![]⟩
abbrev S8704x1024 : Shape := ⟨2, ![8704, 1024]⟩
abbrev S8192x2048 : Shape := ⟨2, ![8192, 2048]⟩
abbrev S256x2048 : Shape := ⟨2, ![256, 2048]⟩
abbrev S8704x4096 : Shape := ⟨2, ![8704, 4096]⟩
abbrev S4096 : Shape := ⟨1, ![4096]⟩
abbrev S1024x2048 : Shape := ⟨2, ![1024, 2048]⟩
abbrev S2048x2048 : Shape := ⟨2, ![2048, 2048]⟩
abbrev S2048 : Shape := ⟨1, ![2048]⟩
abbrev S8704 : Shape := ⟨1, ![8704]⟩
abbrev S8704x1 : Shape := ⟨2, ![8704, 1]⟩

abbrev nBuf : Space → Nat
  | .hbm => 83
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x1024, .bf16⟩
  | .hbm, ⟨2, _⟩ => ⟨S16x16x1024, .bf16⟩
  | .hbm, ⟨3, _⟩ => ⟨S4x2048x2048, .bf16⟩
  | .hbm, ⟨4, _⟩ => ⟨S16x16x2048, .bf16⟩
  | .hbm, ⟨5, _⟩ => ⟨S8704x13312, .f32⟩
  | .hbm, ⟨6, _⟩ => ⟨S1x4096, .f32⟩
  | .hbm, ⟨7, _⟩ => ⟨S1x1024x2048, .f32⟩
  | .hbm, ⟨8, _⟩ => ⟨S1x2048x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S8192x1024, .bf16⟩
  | .hbm, ⟨13, _⟩ => ⟨S256x1024, .bf16⟩
  | .hbm, ⟨14, _⟩ => ⟨S_, .bf16⟩
  | .hbm, ⟨15, _⟩ => ⟨S256x1024, .bf16⟩
  | .hbm, ⟨16, _⟩ => ⟨S8704x1024, .bf16⟩
  | .hbm, ⟨17, _⟩ => ⟨S8704x1024, .f32⟩
  | .hbm, ⟨18, _⟩ => ⟨S8192x2048, .bf16⟩
  | .hbm, ⟨19, _⟩ => ⟨S256x2048, .bf16⟩
  | .hbm, ⟨20, _⟩ => ⟨S_, .bf16⟩
  | .hbm, ⟨21, _⟩ => ⟨S256x2048, .bf16⟩
  | .hbm, ⟨22, _⟩ => ⟨S8704x2048, .bf16⟩
  | .hbm, ⟨23, _⟩ => ⟨S8704x2048, .f32⟩
  | .hbm, ⟨24, _⟩ => ⟨S8704x4096, .f32⟩
  | .hbm, ⟨25, _⟩ => ⟨S4096, .f32⟩
  | .hbm, ⟨26, _⟩ => ⟨S1x4096, .f32⟩
  | .hbm, ⟨27, _⟩ => ⟨S8704x4096, .f32⟩
  | .hbm, ⟨28, _⟩ => ⟨S8704x4096, .f32⟩
  | .hbm, ⟨29, _⟩ => ⟨S8704x4096, .f32⟩
  | .hbm, ⟨30, _⟩ => ⟨S8704x4096, .f32⟩
  | .hbm, ⟨31, _⟩ => ⟨S_, .f32⟩
  | .hbm, ⟨32, _⟩ => ⟨S8704x4096, .f32⟩
  | .hbm, ⟨33, _⟩ => ⟨S8704x4096, .f32⟩
  | .hbm, ⟨34, _⟩ => ⟨S_, .f32⟩
  | .hbm, ⟨35, _⟩ => ⟨S8704x4096, .f32⟩
  | .hbm, ⟨36, _⟩ => ⟨S8704x4096, .f32⟩
  | .hbm, ⟨37, _⟩ => ⟨S8704x2048, .f32⟩
  | .hbm, ⟨38, _⟩ => ⟨S8704x2048, .f32⟩
  | .hbm, ⟨39, _⟩ => ⟨S1024x2048, .f32⟩
  | .hbm, ⟨40, _⟩ => ⟨S8704x2048, .f32⟩
  | .hbm, ⟨41, _⟩ => ⟨S8704x2048, .f32⟩
  | .hbm, ⟨42, _⟩ => ⟨S2048x2048, .f32⟩
  | .hbm, ⟨43, _⟩ => ⟨S8704x2048, .f32⟩
  | .hbm, ⟨44, _⟩ => ⟨S8704x2048, .f32⟩
  | .hbm, ⟨45, _⟩ => ⟨S8704x2048, .f32⟩
  | .hbm, ⟨46, _⟩ => ⟨S_, .f32⟩
  | .hbm, ⟨47, _⟩ => ⟨S8704x2048, .f32⟩
  | .hbm, ⟨48, _⟩ => ⟨S8704x2048, .f32⟩
  | .hbm, ⟨49, _⟩ => ⟨S2048x2048, .f32⟩
  | .hbm, ⟨50, _⟩ => ⟨S8704x2048, .f32⟩
  | .hbm, ⟨51, _⟩ => ⟨S8704x2048, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S8704, .f32⟩
  | .hbm, ⟨56, _⟩ => ⟨S8704x1, .f32⟩
  | .hbm, ⟨57, _⟩ => ⟨S_, .f32⟩
  | .hbm, ⟨58, _⟩ => ⟨S8704x1, .f32⟩
  | .hbm, ⟨59, _⟩ => ⟨S8704x1, .f32⟩
  | .hbm, ⟨60, _⟩ => ⟨S8704x2048, .f32⟩
  | .hbm, ⟨61, _⟩ => ⟨S8704x2048, .f32⟩
  | .hbm, ⟨62, _⟩ => ⟨S8704x2048, .f32⟩
  | .hbm, ⟨63, _⟩ => ⟨S_, .f32⟩
  | .hbm, ⟨64, _⟩ => ⟨S8704, .f32⟩
  | .hbm, ⟨65, _⟩ => ⟨S8704x1, .f32⟩
  | .hbm, ⟨66, _⟩ => ⟨S_, .f32⟩
  | .hbm, ⟨67, _⟩ => ⟨S8704x1, .f32⟩
  | .hbm, ⟨68, _⟩ => ⟨S8704x1, .f32⟩
  | .hbm, ⟨69, _⟩ => ⟨S8704x2048, .f32⟩
  | .hbm, ⟨70, _⟩ => ⟨S8704x2048, .f32⟩
  | .hbm, ⟨71, _⟩ => ⟨S_, .f32⟩
  | .hbm, ⟨72, _⟩ => ⟨S8704x1, .f32⟩
  | .hbm, ⟨73, _⟩ => ⟨S8704x1, .f32⟩
  | .hbm, ⟨74, _⟩ => ⟨S8704x1, .f32⟩
  | .hbm, ⟨75, _⟩ => ⟨S8704x2048, .f32⟩
  | .hbm, ⟨76, _⟩ => ⟨S8704x2048, .f32⟩
  | .hbm, ⟨77, _⟩ => ⟨S1x2048, .f32⟩
  | .hbm, ⟨78, _⟩ => ⟨S8704x2048, .f32⟩
  | .hbm, ⟨79, _⟩ => ⟨S8704x2048, .f32⟩
  | .hbm, ⟨80, _⟩ => ⟨S1x2048, .f32⟩
  | .hbm, ⟨81, _⟩ => ⟨S8704x2048, .f32⟩
  | .hbm, ⟨82, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== FfnIn.lean ====
abbrev S4x2048x2048 : Shape := ⟨3, ![4, 2048, 2048]⟩
abbrev S16x16x2048 : Shape := ⟨3, ![16, 16, 2048]⟩
abbrev S16x2048 : Shape := ⟨2, ![16, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S1x2048x12768 : Shape := ⟨3, ![1, 2048, 12768]⟩
abbrev S_ : Shape := ⟨0, ![]⟩
abbrev S48x2048 : Shape := ⟨2, ![48, 2048]⟩
abbrev S64x2048 : Shape := ⟨2, ![64, 2048]⟩
abbrev S256x2048 : Shape := ⟨2, ![256, 2048]⟩
abbrev S512x2048 : Shape := ⟨2, ![512, 2048]⟩
abbrev S8192x2048 : Shape := ⟨2, ![8192, 2048]⟩
abbrev S2048x11264 : Shape := ⟨2, ![2048, 11264]⟩
abbrev S5632x2048 : Shape := ⟨2, ![5632, 2048]⟩
abbrev S2048 : Shape := ⟨1, ![2048]⟩
abbrev S2048x12768 : Shape := ⟨2, ![2048, 12768]⟩
abbrev S12768x2048 : Shape := ⟨2, ![12768, 2048]⟩
abbrev S8704x2048 : Shape := ⟨2, ![8704, 2048]⟩
abbrev S2048x512 : Shape := ⟨2, ![2048, 512]⟩
abbrev S96x2048 : Shape := ⟨2, ![96, 2048]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S16x16x2048, .f32⟩
  | .hbm, ⟨2, _⟩ => ⟨S16x2048, .f32⟩
  | .hbm, ⟨3, _⟩ => ⟨S1x2048x11264, .f32⟩
  | .hbm, ⟨4, _⟩ => ⟨S1x5632x2048, .f32⟩
  | .hbm, ⟨5, _⟩ => ⟨S1x2048, .f32⟩
  | .hbm, ⟨6, _⟩ => ⟨S1x2048, .f32⟩
  | .hbm, ⟨7, _⟩ => ⟨S1x2048x12768, .f32⟩
  | .hbm, ⟨8, _⟩ => ⟨S_, .f32⟩
  | .hbm, ⟨9, _⟩ => ⟨S48x2048, .f32⟩
  | .hbm, ⟨10, _⟩ => ⟨S64x2048, .f32⟩
  | .hbm, ⟨11, _⟩ => ⟨S256x2048, .f32⟩
  | .hbm, ⟨12, _⟩ => ⟨S512x2048, .f32⟩
  | .hbm, ⟨13, _⟩ => ⟨S8192x2048, .f32⟩
  | .hbm, ⟨14, _⟩ => ⟨S2048x11264, .f32⟩
  | .hbm, ⟨15, _⟩ => ⟨S2048x11264, .bf16⟩
  | .hbm, ⟨16, _⟩ => ⟨S5632x2048, .f32⟩
  | .hbm, ⟨17, _⟩ => ⟨S5632x2048, .bf16⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048x12768, .f32⟩
  | .hbm, ⟨23, _⟩ => ⟨S12768x2048, .f32⟩
  | .hbm, ⟨24, _⟩ => ⟨S8704x2048, .f32⟩
  | .hbm, ⟨25, _⟩ => ⟨S8704x2048, .bf16⟩
  | .hbm, ⟨26, _⟩ => ⟨S12768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | .local _ .vmem, ⟨11, _⟩ => ⟨S96x2048, .f32⟩
  | .local _ .vmem, ⟨12, _⟩ => ⟨S96x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S96x2048, .bf16⟩
  | .local _ .vmem, ⟨18, _⟩ => ⟨S96x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![18, 11], ![false, false]⟩

def k0_cond3 (i : grid0.Coords) : BitVec 1 :=
  let arg1 : BitVec 32 := BitVec.ofNat 32 (i 1).val
  let c0_i32_4 : BitVec 32 := 0#32
  let v13 : BitVec 1 := Scalar.cmpi .eq arg1 c0_i32_4
  let arg0 : BitVec 32 := BitVec.ofNat 32 (i 0).val
  let c0_i32_5 : BitVec 32 := 0#32
  let v14 : BitVec 1 := Scalar.cmpi .sgt arg0 c0_i32_5
  let c17_i32 : BitVec 32 := 17#32
  let v7 : BitVec 1 := Scalar.cmpi .slt arg0 c17_i32
  let v15 : BitVec 1 := Scalar.andi v14 v7
  let v16 : BitVec 1 := Scalar.andi v13 v15
  let v17 : BitVec 32 := Scalar.extui v16
  let c0_i32_6 : BitVec 32 := 0#32
  let v18 : BitVec 1 := Scalar.cmpi .ne v17 c0_i32_6
  v18

def k0_cond4 (i : grid0.Coords) : BitVec 1 :=
  let arg1 : BitVec 32 := BitVec.ofNat 32 (i 1).val
  let c0_i32_7 : BitVec 32 := 0#32
  let v19 : BitVec 1 := Scalar.cmpi .eq arg1 c0_i32_7
  let arg0 : BitVec 32 := BitVec.ofNat 32 (i 0).val
  let c17_i32_8 : BitVec 32 := 17#32
  let v20 : BitVec 1 := Scalar.cmpi .eq arg0 c17_i32_8
  let v21 : BitVec 1 := Scalar.andi v19 v20
  let v22 : BitVec 32 := Scalar.extui v21
  let c0_i32_9 : BitVec 32 := 0#32
  let v23 : BitVec 1 := Scalar.cmpi .ne v22 c0_i32_9
  v23

def k0_cond1 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c133_i32 : BitVec 32 := 133#32
  let v3 : BitVec 1 := Scalar.cmpi .slt v1 c133_i32
  let v4 : BitVec 1 := Scalar.andi v2 v3
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c11_i32 : BitVec 32 := 11#32
  let v2 : BitVec 32 := Scalar.addi v1 c11_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let v2 : BitVec 32 := Scalar.subi v1 c0_i32
  let c0_i32_0 : BitVec 32 := 0#32
  let c132_i32 : BitVec 32 := 132#32
  let v3 : BitVec 32 := Scalar.maxsi c0_i32_0 v2
  let v4 : BitVec 32 := Scalar.minsi c132_i32 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let v2 : BitVec 32 := Scalar.subi v1 c0_i32
  let c0_i32_0 : BitVec 32 := 0#32
  let c132_i32 : BitVec 32 := 132#32
  let v3 : BitVec 32 := Scalar.maxsi c0_i32_0 v2
  let v4 : BitVec 32 := Scalar.minsi c132_i32 v3
  let c0_i32_1 : BitVec 32 := 0#32
  let c0_i32_2 : BitVec 32 := 0#32
  ![v4.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S96x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnInRefIdeal.lean ====
abbrev S4x2048x2048 : Shape := ⟨3, ![4, 2048, 2048]⟩
abbrev S16x16x2048 : Shape := ⟨3, ![16, 16, 2048]⟩
abbrev S16x2048 : Shape := ⟨2, ![16, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S1x2048x12768 : Shape := ⟨3, ![1, 2048, 12768]⟩
abbrev S_ : Shape := ⟨0, ![]⟩
abbrev S48x2048 : Shape := ⟨2, ![48, 2048]⟩
abbrev S64x2048 : Shape := ⟨2, ![64, 2048]⟩
abbrev S8192x2048 : Shape := ⟨2, ![8192, 2048]⟩
abbrev S256x2048 : Shape := ⟨2, ![256, 2048]⟩
abbrev S8704x2048 : Shape := ⟨2, ![8704, 2048]⟩
abbrev S2048x11264 : Shape := ⟨2, ![2048, 11264]⟩
abbrev S5632x2048 : Shape := ⟨2, ![5632, 2048]⟩
abbrev S8704x11264 : Shape := ⟨2, ![8704, 11264]⟩
abbrev S8704x5632 : Shape := ⟨2, ![8704, 5632]⟩
abbrev S2048 : Shape := ⟨1, ![2048]⟩
abbrev S8704 : Shape := ⟨1, ![8704]⟩
abbrev S8704x1 : Shape := ⟨2, ![8704, 1]⟩
abbrev S2048x12768 : Shape := ⟨2, ![2048, 12768]⟩
abbrev S12768x2048 : Shape := ⟨2, ![12768, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x16x2048, .f32⟩
  | .hbm, ⟨2, _⟩ => ⟨S16x2048, .f32⟩
  | .hbm, ⟨3, _⟩ => ⟨S1x2048x11264, .f32⟩
  | .hbm, ⟨4, _⟩ => ⟨S1x5632x2048, .f32⟩
  | .hbm, ⟨5, _⟩ => ⟨S1x2048, .f32⟩
  | .hbm, ⟨6, _⟩ => ⟨S1x2048, .f32⟩
  | .hbm, ⟨7, _⟩ => ⟨S1x2048x12768, .f32⟩
  | .hbm, ⟨8, _⟩ => ⟨S_, .f32⟩
  | .hbm, ⟨9, _⟩ => ⟨S48x2048, .f32⟩
  | .hbm, ⟨10, _⟩ => ⟨S64x2048, .f32⟩
  | .hbm, ⟨11, _⟩ => ⟨S8192x2048, .f32⟩
  | .hbm, ⟨12, _⟩ => ⟨S256x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S2048x11264, .f32⟩
  | .hbm, ⟨18, _⟩ => ⟨S5632x2048, .f32⟩
  | .hbm, ⟨19, _⟩ => ⟨S8704x11264, .f32⟩
  | .hbm, ⟨20, _⟩ => ⟨S8704x5632, .f32⟩
  | .hbm, ⟨21, _⟩ => ⟨S8704x5632, .f32⟩
  | .hbm, ⟨22, _⟩ => ⟨S8704x5632, .f32⟩
  | .hbm, ⟨23, _⟩ => ⟨S8704x5632, .f32⟩
  | .hbm, ⟨24, _⟩ => ⟨S_, .f32⟩
  | .hbm, ⟨25, _⟩ => ⟨S8704x5632, .f32⟩
  | .hbm, ⟨26, _⟩ => ⟨S8704x5632, .f32⟩
  | .hbm, ⟨27, _⟩ => ⟨S_, .f32⟩
  | .hbm, ⟨28, _⟩ => ⟨S8704x5632, .f32⟩
  | .hbm, ⟨29, _⟩ => ⟨S8704x5632, .f32⟩
  | .hbm, ⟨30, _⟩ => ⟨S8704x5632, .f32⟩
  | .hbm, ⟨31, _⟩ => ⟨S8704x5632, .f32⟩
  | .hbm, ⟨32, _⟩ => ⟨S8704x2048, .f32⟩
  | .hbm, ⟨33, _⟩ => ⟨S_, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S8704, .f32⟩
  | .hbm, ⟨41, _⟩ => ⟨S8704x1, .f32⟩
  | .hbm, ⟨42, _⟩ => ⟨S_, .f32⟩
  | .hbm, ⟨43, _⟩ => ⟨S8704x1, .f32⟩
  | .hbm, ⟨44, _⟩ => ⟨S8704x1, .f32⟩
  | .hbm, ⟨45, _⟩ => ⟨S8704x2048, .f32⟩
  | .hbm, ⟨46, _⟩ => ⟨S8704x2048, .f32⟩
  | .hbm, ⟨47, _⟩ => ⟨S8704x2048, .f32⟩
  | .hbm, ⟨48, _⟩ => ⟨S_, .f32⟩
  | .hbm, ⟨49, _⟩ => ⟨S8704, .f32⟩
  | .hbm, ⟨50, _⟩ => ⟨S8704x1, .f32⟩
  | .hbm, ⟨51, _⟩ => ⟨S_, .f32⟩
  | .hbm, ⟨52, _⟩ => ⟨S8704x1, .f32⟩
  | .hbm, ⟨53, _⟩ => ⟨S8704x1, .f32⟩
  | .hbm, ⟨54, _⟩ => ⟨S8704x2048, .f32⟩
  | .hbm, ⟨55, _⟩ => ⟨S8704x2048, .f32⟩
  | .hbm, ⟨56, _⟩ => ⟨S_, .f32⟩
  | .hbm, ⟨57, _⟩ => ⟨S8704x1, .f32⟩
  | .hbm, ⟨58, _⟩ => ⟨S8704x1, .f32⟩
  | .hbm, ⟨59, _⟩ => ⟨S8704x1, .f32⟩
  | .hbm, ⟨60, _⟩ => ⟨S8704x2048, .f32⟩
  | .hbm, ⟨61, _⟩ => ⟨S8704x2048, .f32⟩
  | .hbm, ⟨62, _⟩ => ⟨S1x2048, .f32⟩
  | .hbm, ⟨63, _⟩ => ⟨S8704x2048, .f32⟩
  | .hbm, ⟨64, _⟩ => ⟨S8704x2048, .f32⟩
  | .hbm, ⟨65, _⟩ => ⟨S1x2048, .f32⟩
  | .hbm, ⟨66, _⟩ => ⟨S8704x2048, .f32⟩
  | .hbm, ⟨67, _⟩ => ⟨S8704x2048, .f32⟩
  | .hbm, ⟨68, _⟩ => ⟨S8704x2048, .bf16⟩
  | .hbm, ⟨69, _⟩ => ⟨S2048x12768, .f32⟩
  | .hbm, ⟨70, _⟩ => ⟨S12768x2048, .f32⟩
  | .hbm, ⟨71, _⟩ => ⟨S12768x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Ssd.lean ====
abbrev S8704x13312 : Shape := ⟨2, ![8704, 13312]⟩
abbrev S1x16x3x3072 : Shape := ⟨4, ![1, 16, 3, 3072]⟩
abbrev S1x16x32x64x128 : Shape := ⟨5, ![1, 16, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S4x3072 : Shape := ⟨2, ![4, 3072]⟩
abbrev S3072 : Shape := ⟨1, ![3072]⟩
abbrev S32 : Shape := ⟨1, ![32]⟩
abbrev S1x96 : Shape := ⟨2, ![1, 96]⟩
abbrev S1x128 : Shape := ⟨2, ![1, 128]⟩
abbrev S32x64 : Shape := ⟨2, ![32, 64]⟩
abbrev S16x3x3072 : Shape := ⟨3, ![16, 3, 3072]⟩
abbrev S16x8x3072 : Shape := ⟨3, ![16, 8, 3072]⟩
abbrev S16x32x64x128 : Shape := ⟨4, ![16, 32, 64, 128]⟩
abbrev S16x16x2048 : Shape := ⟨3, ![16, 16, 2048]⟩
abbrev S16x2048 : Shape := ⟨2, ![16, 2048]⟩
abbrev S16x1024 : Shape := ⟨2, ![16, 1024]⟩
abbrev S16x128 : Shape := ⟨2, ![16, 128]⟩
abbrev S1x8x3072 : Shape := ⟨3, ![1, 8, 3072]⟩
abbrev S1x32x64x128 : Shape := ⟨4, ![1, 32, 64, 128]⟩
abbrev S1x16x2048 : Shape := ⟨3, ![1, 16, 2048]⟩
abbrev S1x24x3072 : Shape := ⟨3, ![1, 24, 3072]⟩
abbrev S16x3072 : Shape := ⟨2, ![16, 3072]⟩
abbrev S1x16x3072 : Shape := ⟨3, ![1, 16, 3072]⟩
abbrev S8x3072 : Shape := ⟨2, ![8, 3072]⟩
abbrev S16x512 : Shape := ⟨2, ![16, 512]⟩
abbrev S16x16 : Shape := ⟨2, ![16, 16]⟩
abbrev S128x16 : Shape := ⟨2, ![128, 16]⟩
abbrev S1x1x64x128 : Shape := ⟨4, ![1, 1, 64, 128]⟩
abbrev S64x128 : Shape := ⟨2, ![64, 128]⟩
abbrev S512x128 : Shape := ⟨2, ![512, 128]⟩
abbrev S16x1 : Shape := ⟨2, ![16, 1]⟩
abbrev S1x16 : Shape := ⟨2, ![1, 16]⟩
abbrev S16x64 : Shape := ⟨2, ![16, 64]⟩
abbrev S1x1 : Shape := ⟨2, ![1, 1]⟩
abbrev S16 : Shape := ⟨1, ![16]⟩

abbrev nBuf : Space → Nat
  | .hbm => 64
  | .vmem => 27
  | .smem => 0
  | _ => 0

abbrev bufTy : (tb : Table) → Fin (tcTables nBuf tb) → BufTy
  | .hbm, ⟨0, _⟩ => ⟨S8704x13312, .f32⟩
  | .hbm, ⟨1, _⟩ => ⟨S1x16x3x3072, .f32⟩
  | .hbm, ⟨2, _⟩ => ⟨S1x16x32x64x128, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S128, .i32⟩
  | .hbm, ⟨29, _⟩ => ⟨S128x1, .i32⟩
  | .hbm, ⟨30, _⟩ => ⟨S1x2048, .i32⟩
  | .hbm, ⟨31, _⟩ => ⟨S128x2048, .i32⟩
  | .hbm, ⟨32, _⟩ => ⟨S128x2048, .i32⟩
  | .hbm, ⟨33, _⟩ => ⟨S128x2048, .i1⟩
  | .hbm, ⟨34, _⟩ => ⟨S128x2048, .bf16⟩
  | .hbm, ⟨35, _⟩ => ⟨S4x3072, .f32⟩
  | .hbm, ⟨36, _⟩ => ⟨S3072, .f32⟩
  | .hbm, ⟨37, _⟩ => ⟨S1x3072, .f32⟩
  | .hbm, ⟨38, _⟩ => ⟨S32, .f32⟩
  | .hbm, ⟨39, _⟩ => ⟨S1x32, .f32⟩
  | .hbm, ⟨40, _⟩ => ⟨S_, .f32⟩
  | .hbm, ⟨41, _⟩ => ⟨S1x96, .f32⟩
  | .hbm, ⟨42, _⟩ => ⟨S1x128, .f32⟩
  | .hbm, ⟨43, _⟩ => ⟨S32, .f32⟩
  | .hbm, ⟨44, _⟩ => ⟨S1x32, .f32⟩
  | .hbm, ⟨45, _⟩ => ⟨S_, .f32⟩
  | .hbm, ⟨46, _⟩ => ⟨S1x96, .f32⟩
  | .hbm, ⟨47, _⟩ => ⟨S1x128, .f32⟩
  | .hbm, ⟨48, _⟩ => ⟨S32, .f32⟩
  | .hbm, ⟨49, _⟩ => ⟨S32x64, .f32⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S16x3x3072, .f32⟩
  | .hbm, ⟨55, _⟩ => ⟨S_, .i32⟩
  | .hbm, ⟨56, _⟩ => ⟨S_, .f32⟩
  | .hbm, ⟨57, _⟩ => ⟨S16x8x3072, .f32⟩
  | .hbm, ⟨58, _⟩ => ⟨S16x32x64x128, .f32⟩
  | .hbm, ⟨59, _⟩ => ⟨S16x16x2048, .bf16⟩
  | .hbm, ⟨60, _⟩ => ⟨S16x32x64x128, .f32⟩
  | .hbm, ⟨61, _⟩ => ⟨S16x8x3072, .f32⟩
  | .hbm, ⟨62, _⟩ => ⟨S16x3x3072, .f32⟩
  | .hbm, ⟨63, _⟩ => ⟨S1x16x3x3072, .f32⟩
  | .local _ .vmem, ⟨0, _⟩ => ⟨S16x2048, .f32⟩
  | .local _ .vmem, ⟨1, _⟩ => ⟨S16x2048, .f32⟩
  | .local _ .vmem, ⟨2, _⟩ => ⟨S16x1024, .f32⟩
  | .local _ .vmem, ⟨3, _⟩ => ⟨S16x1024, .f32⟩
  | .local _ .vmem, ⟨4, _⟩ => ⟨S16x2048, .f32⟩
  | .local _ .vmem, ⟨5, _⟩ => ⟨S16x2048, .f32⟩
  | .local _ .vmem, ⟨6, _⟩ => ⟨S16x128, .f32⟩
  | .local _ .vmem, ⟨7, _⟩ => ⟨S16x128, .f32⟩
  | .local _ .vmem, ⟨8, _⟩ => ⟨S1x8x3072, .f32⟩
  | .local _ .vmem, ⟨9, _⟩ => ⟨S1x8x3072, .f32⟩
  | .local _ .vmem, ⟨10, _⟩ => ⟨S1x32x64x128, .f32⟩
  | .local _ .vmem, ⟨11, _⟩ => ⟨S1x32x64x128, .f32⟩
  | .local _ .vmem, ⟨12, _⟩ => ⟨S4x3072, .f32⟩
  | .local _ .vmem, ⟨13, _⟩ => ⟨S1x3072, .f32⟩
  | .local _ .vmem, ⟨14, _⟩ => ⟨S1x128, .f32⟩
  | .local _ .vmem, ⟨15, _⟩ => ⟨S1x128, .f32⟩
  | .local _ .vmem, ⟨16, _⟩ => ⟨S1x2048, .f32⟩
  | .local _ .vmem, ⟨17, _⟩ => ⟨S1x2048, .f32⟩
  | .local _ .vmem, ⟨18, _⟩ => ⟨S128x2048, .bf16⟩
  | .local _ .vmem, ⟨19, _⟩ => ⟨S1x16x2048, .bf16⟩
  | .local _ .vmem, ⟨20, _⟩ => ⟨S1x16x2048, .bf16⟩
  | .local _ .vmem, ⟨21, _⟩ => ⟨S1x32x64x128, .f32⟩
  | .local _ .vmem, ⟨22, _⟩ => ⟨S1x32x64x128, .f32⟩
  | .local _ .vmem, ⟨23, _⟩ => ⟨S1x8x3072, .f32⟩
  | .local _ .vmem, ⟨24, _⟩ => ⟨S1x8x3072, .f32⟩
  | .local _ .vmem, ⟨25, _⟩ => ⟨S1x24x3072, .f32⟩
  | .local _ .vmem, ⟨26, _⟩ => ⟨S16x2048, .f32⟩
  | _, _ => ⟨S8704x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_1 : Ref sig .tc := ⟨.hbm, 55, rfl⟩
abbrev main_call1_v0 : Ref sig .tc := ⟨.hbm, 56, rfl⟩
abbrev main_v27 : Ref sig .tc := ⟨.hbm, 57, rfl⟩
abbrev main_v28 : Ref sig .tc := ⟨.hbm, 58, rfl⟩
abbrev main_v29_0 : Ref sig .tc := ⟨.hbm, 59, rfl⟩
abbrev main_v29_1 : Ref sig .tc := ⟨.hbm, 60, rfl⟩
abbrev main_v29_2 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c12_i32 : BitVec 32 := 12#32
  let c0_i32 : BitVec 32 := 0#32
  ![v0.toNat, c12_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c28_i32 : BitVec 32 := 28#32
  let c0_i32 : BitVec 32 := 0#32
  ![v0.toNat, c28_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdRefIdeal.lean ====
abbrev S8704x13312 : Shape := ⟨2, ![8704, 13312]⟩
abbrev S1x16x3x3072 : Shape := ⟨4, ![1, 16, 3, 3072]⟩
abbrev S1x16x32x64x128 : Shape := ⟨5, ![1, 16, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S256x3072 : Shape := ⟨2, ![256, 3072]⟩
abbrev S16x16x3072 : Shape := ⟨3, ![16, 16, 3072]⟩
abbrev S16x3x3072 : Shape := ⟨3, ![16, 3, 3072]⟩
abbrev S16x19x3072 : Shape := ⟨3, ![16, 19, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8704x13312, .f32⟩
  | .hbm, ⟨1, _⟩ => ⟨S1x16x3x3072, .f32⟩
  | .hbm, ⟨2, _⟩ => ⟨S1x16x32x64x128, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x2048, .f32⟩
  | .hbm, ⟨9, _⟩ => ⟨S256x3072, .f32⟩
  | .hbm, ⟨10, _⟩ => ⟨S16x16x3072, .f32⟩
  | .hbm, ⟨11, _⟩ => ⟨S16x3x3072, .f32⟩
  | .hbm, ⟨12, _⟩ => ⟨S16x19x3072, .f32⟩
  | .hbm, ⟨13, _⟩ => ⟨S16x3x3072, .f32⟩
  | .hbm, ⟨14, _⟩ => ⟨S1x16x3x3072, .f32⟩
  | _, _ => ⟨S8704x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Proof.FfnOut.Run.lean ====
/- The second feed-forward kernel's body, case by case: what a run of it leaves in its scratch and in its outputs. -/
module

public import proofs.«01_k».proof.Proof.Gen.FfnOutIdeal.Launch
public import proofs.«01_k».proof.Proof.Gen.FfnOutIdeal.Skeleton
public import proofs.«01_k».proof.Proof.Gen.FfnOutIdeal.Points
public import proofs.«01_k».proof.Proof.Gen.FfnOutIdeal.Frame
public import Idealize.ShloMosaic.Lib.Pipeline.FrameBody
public import Idealize.ShloMosaic.Lib.Pipeline.ValueKit.Acc
public import Idealize.ShloMosaic.Lib.Ring
public import Idealize.ShloMosaic.Lib.Tactic
public import Idealize.ShloMosaic.Lib.Tactic.Stretches
public import Idealize.ShloMosaic.Lib.WordCmp

@[expose] public section

set_option maxRecDepth 16384

noncomputable section

namespace Cert.FfnOutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnOutIdeal.Gen

variable {F : FTy → Type} [FloatOps F]

local notation "𝕄" => MT nD τ sig Unit (Elt F) ℕ (UR sig nD τ) ℕ

/-- A store of a whole buffer, read back. -/
theorem stored {S : Shape} {e : EltTy} {sp : Space} (v : View sig .tc sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  subst h; exact View.read_writes_whole v f w

/-- The offsets of a whole load or store. -/
theorem zero2 : (![0, 0] : Fin 2 → ℕ) = fun _ => 0 := by decide

/-- The body's first condition: the first block of columns of the first block of rows. -/
abbrev firstOf (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- The second: the first block of columns of a later block of rows. -/
abbrev nextOf (i : grid0.Coords) : Prop := k0_cond2 i = 1#1
/-- The third: the first point past the last block of rows. -/
abbrev pastOf (i : grid0.Coords) : Prop := k0_cond3 i = 1#1
/-- The fourth: a block of columns neither first nor last. -/
abbrev midOf (i : grid0.Coords) : Prop := (Scalar.cmpi .ne (Scalar.extui (Scalar.andi (Scalar.cmpi .slt (BitVec.ofNat 32 (i 0).val) 17#32) (Scalar.andi (Scalar.cmpi .sgt (BitVec.ofNat 32 (i 1).val) 0#32) (Scalar.cmpi .slt (BitVec.ofNat 32 (i 1).val) 10#32)))) 0#32) = 1#1
/-- The fifth: the last block of columns. -/
abbrev lastOf (i : grid0.Coords) : Prop := (Scalar.cmpi .ne (Scalar.extui (Scalar.andi (Scalar.cmpi .slt (BitVec.ofNat 32 (i 0).val) 17#32) (Scalar.cmpi .eq (BitVec.ofNat 32 (i 1).val) 10#32))) 0#32) = 1#1

variable (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (x0 : Vec F S512x2048 .f32) (x1 : Vec F S2048x512 .bf16) (x2 : Vec F S2048x512 .bf16) (x3 : Vec F S512x2048 .bf16) (x4 : Vec F S1x2048 .f32) (x5 : Vec F S1x2048 .f32)
    (y6 y7 : Vec F S512x2048 .f32) (X : Vec F S512x2048 .bf16) (A S : Vec F S512x2048 .f32)

/-- The body's buffers at given contents: six inputs, two outputs, three scratch buffers. -/
abbrev held : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
    ∗ owns (c : Thread nD τ) arg8 fullShare y6 ∗ owns (c : Thread nD τ) arg9 fullShare y7 ∗ owns (c : Thread nD τ) arg10 fullShare X ∗ owns (c : Thread nD τ) arg11 fullShare A ∗ owns (c : Thread nD τ) arg12 fullShare S)

/-- A run of the body from the one contents ends with the others. -/
abbrev Leaves (y6' y7' : Vec F S512x2048 .f32) (X' : Vec F S512x2048 .bf16) (A' S' : Vec F S512x2048 .f32) : Prop :=
  ∀ (E : Set ℕ) (K : PUnit → sProp 𝕄),
    iprop(held c arg2 arg3 arg4 arg5 arg6 arg7 arg8 arg9 arg10 arg11 arg12 x0 x1 x2 x3 x4 x5 y6 y7 X A S
        ∗ (held c arg2 arg3 arg4 arg5 arg6 arg7 arg8 arg9 arg10 arg11 arg12 x0 x1 x2 x3 x4 x5 y6' y7' X' A' S' -∗ K ⟨⟩))
      ⊢ wp frame (wpE (defs₀ (F := F)) Variants.none c none) E (cc0_ffn_ln_out i arg2 harg2 arg3 harg3 arg4 harg4 arg5 harg5 arg6 harg6 arg7 harg7 arg8 harg8 arg9 harg9 arg10 harg10 arg11 harg11 arg12 harg12) K

set_option maxHeartbeats 1000000 in
/-- The first block of columns of the first block of rows: the rows, and the first term of their sum. -/
theorem run_first (hc0 : firstOf i) (hc1 : ¬nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      y6 y7 (k0_pay2 x0) (k0_pay3 x0 x1 x2 x3) S := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; refine (stored _ _ zero2 _ _).trans ?_
    simp (disch := decide) only [View.readAt_eq_ld, View.ld_unit_lit', Memref.IsWhole.read_unread]
  isplitl [H9]
  · iexists _; isplitr; swap; · iexact H9
    ipureintro; refine (stored _ _ zero2 _ _).trans ?_
    simp (disch := decide) only [View.readAt_eq_ld, View.ld_unit_lit', Memref.IsWhole.read_unread]
  iexists _; isplitr; · ipureintro; exact harg12.read_unread _
  iexact H10

set_option maxHeartbeats 1000000 in
/-- The first block of columns of a later block of rows: the rows, the first term of their sum, and the rows before normalised. -/
theorem run_next (hc0 : ¬firstOf i) (hc1 : nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      (k0_pay4 (k0_pay11 x4) (k0_pay12 x5) (k0_pay13 S) (k0_pay14 S)) y7 (k0_pay9 x0) (k0_pay10 x0 x1 x2 x3) S := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; refine (stored _ _ zero2 _ _).trans ?_
    sl_open_run
    simp (disch := decide) only [View.readAt_eq_ld, View.ld_unit_lit', Memref.IsWhole.read_unread]
  isplitl [H7]
  · iexists _; isplitr; · ipureintro; exact harg9.read_unread _
    iexact H7
  isplitl [H8]
  · iexists _; isplitr; swap; · iexact H8
    ipureintro; refine (stored _ _ zero2 _ _).trans ?_
    simp (disch := decide) only [View.readAt_eq_ld, View.ld_unit_lit', Memref.IsWhole.read_unread]
  isplitl [H9]
  · iexists _; isplitr; swap; · iexact H9
    ipureintro; refine (stored _ _ zero2 _ _).trans ?_
    simp (disch := decide) only [View.readAt_eq_ld, View.ld_unit_lit', Memref.IsWhole.read_unread]
  iexists _; isplitr; · ipureintro; exact harg12.read_unread _
  iexact H10

set_option maxHeartbeats 1000000 in
/-- The first point past the rows: the last rows normalised. -/
theorem run_past (hc0 : ¬firstOf i) (hc1 : ¬nextOf i) (hc2 : pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      y6 (k0_pay5 S x4 x5) X A S := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; refine (stored _ _ zero2 _ _).trans ?_
    simp (disch := decide) only [View.readAt_eq_ld, View.ld_unit_lit', Memref.IsWhole.read_unread]
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

set_option maxHeartbeats 1000000 in
/-- A block of columns neither first nor last: one more term of the sum. -/
theorem run_mid (hc0 : ¬firstOf i) (hc1 : ¬nextOf i) (hc2 : ¬pastOf i) (hc3 : midOf i) (hc4 : ¬lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      y6 y7 X (k0_pay6 A X x1 x2 x3) S := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (stored _ _ zero2 _ _).trans ?_
    simp (disch := decide) only [View.readAt_eq_ld, View.ld_unit_lit', Memref.IsWhole.read_unread]
  iexists _; isplitr; · ipureintro; exact harg12.read_unread _
  iexact H10

set_option maxHeartbeats 1000000 in
/-- The last block of columns: the sum completed and added to the rows. -/
theorem run_last (hc0 : ¬firstOf i) (hc1 : ¬nextOf i) (hc2 : ¬pastOf i) (hc3 : ¬midOf i) (hc4 : lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      y6 y7 X A (k0_pay7 x0 A X x1 x2 x3) := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  iexists _; isplitr; swap; · iexact H10
  ipureintro; refine (stored _ _ zero2 _ _).trans ?_
  simp (disch := decide) only [View.readAt_eq_ld, View.ld_unit_lit', Memref.IsWhole.read_unread]

set_option maxHeartbeats 1000000 in
/-- A later point past the rows: nothing. -/
theorem run_none (hc0 : ¬firstOf i) (hc1 : ¬nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 x0 x1 x2 x3 x4 x5 y6 y7 X A S
      y6 y7 X A S := by
  intro E K
  simp only [cc0_ffn_ln_out_eq_skeleton]; unfold cc0_ffn_ln_out_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

end Cert.FfnOutIdeal.Body

end

end
-- ==== Proof.FfnOut.Frame.lean ====
/- The second feed-forward kernel's run: what its scratch and its outputs hold before every point of the grid, and what
   its arrays hold at the end. The grid is 18 by 11, row by row: at the 11 points of one of its first 17 rows the kernel
   sums one block of 512 rows over the 11 blocks of hidden columns, and at the first point of the next row it writes that
   block of rows out, normalised. -/
module

public import proofs.«01_k».proof.Proof.FfnOut.Run
public import Idealize.ShloMosaic.Lib.Pipeline.TableIdle
public import Idealize.ShloMosaic.Lib.Claim

@[expose] public section

set_option maxRecDepth 16384

noncomputable section

namespace Cert.FfnOutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The grid's points -/

/-- Point `n` of the grid. -/
def pt (n : ℕ) : Fin cfg0.N := ⟨n % 198, by rw [show cfg0.N = 198 from N_0]; omega⟩

theorem pt_val (t : Fin cfg0.N) : pt t.val = t :=
  Fin.ext (Nat.mod_eq_of_lt (lt_of_lt_of_eq t.isLt (show cfg0.N = 198 from N_0)))

theorem firstOf_iff : ∀ t : Fin cfg0.N, firstOf (grid0.coords t) ↔ t.val = 0 :=
  (by decide +kernel : ∀ t : Fin grid0.N, firstOf (grid0.coords t) ↔ t.val = 0)
theorem nextOf_iff : ∀ t : Fin cfg0.N, nextOf (grid0.coords t) ↔ t.val % 11 = 0 ∧ 11 ≤ t.val ∧ t.val < 187 :=
  (by decide +kernel : ∀ t : Fin grid0.N, nextOf (grid0.coords t) ↔ t.val % 11 = 0 ∧ 11 ≤ t.val ∧ t.val < 187)
theorem pastOf_iff : ∀ t : Fin cfg0.N, pastOf (grid0.coords t) ↔ t.val = 187 :=
  (by decide +kernel : ∀ t : Fin grid0.N, pastOf (grid0.coords t) ↔ t.val = 187)
theorem midOf_iff : ∀ t : Fin cfg0.N, midOf (grid0.coords t) ↔ t.val < 187 ∧ t.val % 11 ≠ 0 ∧ t.val % 11 ≠ 10 :=
  (by decide +kernel : ∀ t : Fin grid0.N, midOf (grid0.coords t) ↔ t.val < 187 ∧ t.val % 11 ≠ 0 ∧ t.val % 11 ≠ 10)
theorem lastOf_iff : ∀ t : Fin cfg0.N, lastOf (grid0.coords t) ↔ t.val < 187 ∧ t.val % 11 = 10 :=
  (by decide +kernel : ∀ t : Fin grid0.N, lastOf (grid0.coords t) ↔ t.val < 187 ∧ t.val % 11 = 10)

theorem idle6 : ∀ t : Fin cfg0.N, cfg0.idle 6 (grid0.coords t) = !decide (t.val % 11 = 0 ∧ 11 ≤ t.val ∧ t.val < 187) :=
  (by decide +kernel : ∀ t : Fin grid0.N, idle0 6 (grid0.coords t) = !decide (t.val % 11 = 0 ∧ 11 ≤ t.val ∧ t.val < 187))
theorem idle7 : ∀ t : Fin cfg0.N, cfg0.idle 7 (grid0.coords t) = !decide (t.val = 187) :=
  (by decide +kernel : ∀ t : Fin grid0.N, idle0 7 (grid0.coords t) = !decide (t.val = 187))

theorem flush6 : ∀ t : Fin cfg0.N, (cfg0.win 6).flush t = decide (t.val % 11 = 10 ∧ 21 ≤ t.val ∧ t.val ≠ 186) :=
  (fun t => (win0_6.flush_eq_flushF t).trans ((by decide +kernel : ∀ t : Fin grid0.N, win0_6.flushF t = decide (t.val % 11 = 10 ∧ 21 ≤ t.val ∧ t.val ≠ 186)) t)
    : ∀ t : Fin grid0.N, win0_6.flush t = decide (t.val % 11 = 10 ∧ 21 ≤ t.val ∧ t.val ≠ 186))

theorem flush7 (t : Fin cfg0.N) : (cfg0.win 7).flush t = decide (t.val = 197) := by
  have hN : t.val < 198 := lt_of_lt_of_eq t.isLt (show cfg0.N = 198 from N_0)
  rw [Bool.eq_iff_iff, flush0_7, decide_eq_true_iff]; omega

/-- Where the first output's buffer holds nothing stored since it was last written back. -/
def fresh6 (n : ℕ) : Bool := decide (n ≤ 11 ∨ n % 11 = 0 ∧ n ≠ 187)

theorem fresh6_eq (n : ℕ) (h : n ≤ cfg0.N) : cfg0.fresh 6 n = fresh6 n :=
  Cfg.fresh_tab cfg0 6 fresh6 rfl (fun t => by
    have hN : t.val < 198 := lt_of_lt_of_eq t.isLt (show cfg0.N = 198 from N_0)
    rw [flush6, show cfg0.idle 6 (cfg0.grid.coords t) = _ from idle6 t, fresh6, fresh6, Bool.eq_iff_iff]
    simp only [Bool.or_eq_true, Bool.and_eq_true, Bool.not_eq_true', decide_eq_true_iff, decide_eq_false_iff_not]
    omega) n h

/-- Where the second output's buffer holds nothing stored. -/
def fresh7 (n : ℕ) : Bool := decide (n ≤ 187 ∨ n = 198)

theorem fresh7_eq (n : ℕ) (h : n ≤ cfg0.N) : cfg0.fresh 7 n = fresh7 n :=
  Cfg.fresh_tab cfg0 7 fresh7 rfl (fun t => by
    have hN : t.val < 198 := lt_of_lt_of_eq t.isLt (show cfg0.N = 198 from N_0)
    rw [flush7, show cfg0.idle 7 (cfg0.grid.coords t) = _ from idle7 t, fresh7, fresh7, Bool.eq_iff_iff]
    simp only [Bool.or_eq_true, Bool.and_eq_true, Bool.not_eq_true', decide_eq_true_iff, decide_eq_false_iff_not]
    omega) n h

/-! ## What the kernel computes, block by block -/

/-- The block of rows the kernel reads at point `n`. -/
def bx (n : ℕ) : Vec F S512x2048 .f32 := iblk m c 0 (pt n)
/-- The block of gate columns. -/
def bg (n : ℕ) : Vec F S2048x512 .bf16 := iblk m c 1 (pt n)
/-- The block of up columns. -/
def bu (n : ℕ) : Vec F S2048x512 .bf16 := iblk m c 2 (pt n)
/-- The block of down rows. -/
def bd (n : ℕ) : Vec F S512x2048 .bf16 := iblk m c 3 (pt n)
/-- The scale. -/
def bγ (n : ℕ) : Vec F S1x2048 .f32 := iblk m c 4 (pt n)
/-- The shift. -/
def bβ (n : ℕ) : Vec F S1x2048 .f32 := iblk m c 5 (pt n)

/-- Block `i` of the rows, as the products take it. -/
def rows (i : ℕ) : Vec F S512x2048 .bf16 := k0_pay9 (bx m c (11 * i))

/-- The sum over the blocks of hidden columns `0 … f` of row block `i`. -/
def sums (i : ℕ) : ℕ → Vec F S512x2048 .f32
  | 0 => k0_pay10 (bx m c (11 * i)) (bg m c (11 * i)) (bu m c (11 * i)) (bd m c (11 * i))
  | f + 1 => k0_pay6 (sums i f) (rows m c i) (bg m c (11 * i + (f + 1))) (bu m c (11 * i + (f + 1))) (bd m c (11 * i + (f + 1)))

/-- Row block `i` with the whole sum added. -/
def full (i : ℕ) : Vec F S512x2048 .f32 :=
  k0_pay7 (bx m c (11 * i + 10)) (sums m c i 9) (rows m c i) (bg m c (11 * i + 10)) (bu m c (11 * i + 10)) (bd m c (11 * i + 10))

/-- Row block `i` normalised, as the first output takes it. -/
def outMain (i : ℕ) : Vec F S512x2048 .f32 :=
  k0_pay4 (k0_pay11 (bγ m c (11 * (i + 1)))) (k0_pay12 (bβ m c (11 * (i + 1)))) (k0_pay13 (full m c i)) (k0_pay14 (full m c i))

/-- The last row block normalised, as the second output takes it. -/
def outLast : Vec F S512x2048 .f32 := k0_pay5 (full m c 16) (bγ m c 187) (bβ m c 187)

/-- The scratch buffers' contents before point `n`. -/
structure Inv (n : ℕ) (X : Vec F S512x2048 .bf16) (A S : Vec F S512x2048 .f32) : Prop where
  hX : n % 11 ≠ 0 → n < 187 → X = rows m c (n / 11)
  hA : n % 11 ≠ 0 → n < 187 → A = sums m c (n / 11) (n % 11 - 1)
  hS : 11 ≤ n → S = full m c (min (n / 11 - 1) 16)

/-- The body's invariant before point `n`. -/
def PhiS (n : ℕ) : sProp 𝕄 :=
  iprop(∃ (X : Vec F S512x2048 .bf16) (A S : Vec F S512x2048 .f32), ⌜Inv m c n X A S⌝
    ∗ owns (c : Thread nD τ) (Memref.whole cc0_scratch0) fullShare X ∗ owns (c : Thread nD τ) (Memref.whole cc0_scratch1) fullShare A
    ∗ owns (c : Thread nD τ) (Memref.whole cc0_scratch2) fullShare S ∗ (∃ r, prngReg c r))

/-- The proof data of the pipeline: each input's buffer at its block, the outputs' at the rows last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outMain m c (min (t.val / 11 - 1) 15)
    | ⟨7, _⟩ => outLast m c
  Φ t := PhiS m c t.val
  q w := Pipeline.shareOf spec0 w
  owed _ := 0

theorem A_eq (c : Dev nD) (w : Fin cfg0.W) : (dats m 0 c).A w = V m c (Pipeline.arrRef spec0 w) := by dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = outMain m c (min (t.val / 11 - 1) 15) := by dsimp only [dats]
theorem after0_7 (t : Fin cfg0.N) : (dats m 0 c).after 7 t = outLast m c := by dsimp only [dats]

theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d

/-- At a point that does not store the first output but writes it back, its buffer holds the rows last stored. -/
theorem before6 (t : Fin cfg0.N) (hf : (cfg0.win 6).flush t = true) (d) : (dats m 0 c).before 6 t d = (dats m 0 c).after 6 t := by
  have hN : t.val < 198 := lt_of_lt_of_eq t.isLt (show cfg0.N = 198 from N_0)
  rw [flush6, decide_eq_true_iff] at hf
  rw [(dats m 0 c).before_out_traj 6 rfl (fun _ _ => rfl) (fun t ht hi _ => ?_) t.val t rfl d, fresh6_eq _ t.isLt.le, fresh6,
    if_neg (by rw [decide_eq_true_iff]; omega), after0_6, after0_6]
  · exact congrArg _ (by show min ((t.val - 1) / 11 - 1) 15 = _; omega)
  · have hN : t.val < 198 := lt_of_lt_of_eq t.isLt (show cfg0.N = 198 from N_0)
    rw [show cfg0.idle 6 (cfg0.grid.coords t) = _ from idle6 t, Bool.not_eq_true', decide_eq_false_iff_not] at hi
    rw [after0_6, after0_6]
    exact congrArg _ (by show _ = min ((t.val - 1) / 11 - 1) 15; omega)

/-- The same of the second output. -/
theorem before7 (t : Fin cfg0.N) (hf : (cfg0.win 7).flush t = true) (d) : (dats m 0 c).before 7 t d = (dats m 0 c).after 7 t := by
  have hN : t.val < 198 := lt_of_lt_of_eq t.isLt (show cfg0.N = 198 from N_0)
  rw [flush7, decide_eq_true_iff] at hf
  rw [(dats m 0 c).before_out_traj 7 rfl (fun _ _ => rfl) (fun t ht hi _ => by rw [after0_7, after0_7]) t.val t rfl d, fresh7_eq _ t.isLt.le, fresh7,
    if_neg (by rw [decide_eq_true_iff]; omega), after0_7, after0_7]

/-! ## The body at a point -/

theorem leaves_in (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- An output the point does not store is left as it was found. -/
theorem keep (w : Fin cfg0.W) (t : Fin cfg0.N) (h : cfg0.idle w (grid0.coords t) = true)
    (hb : (cfg0.win w).flush t = true → ∀ d, (dats m 0 c).before w t d = (dats m 0 c).after w t) (d) :
    owns (c : Thread nD τ) ((cfg0.win w).stage (cfg0.slots t w)) fullShare ((dats m 0 c).before w t d) ⊢ (dats m 0 c).leavesExact w t := by
  unfold Dat.leavesExact; rw [h]
  cases hf : (cfg0.win w).flush t
  · iintro H; iexists d; iexact H
  · rw [hb hf d]

/-- What the body is called with at point `t`, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A run of the body from what the point finds, with what it leaves: the obligation at the point. -/
theorem point (t : Fin cfg0.N) (y6 y7 y6' y7' : Vec F S512x2048 .f32) (X X' : Vec F S512x2048 .bf16) (A S A' S' : Vec F S512x2048 .f32)
    (hrun : Leaves c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (iblk m c 5 t) y6 y7 X A S y6' y7' X' A' S')
    (hI : Inv m c (t.val + 1) X' A' S')
    (h6 : owns (c : Thread nD τ) (st0_6 t) fullShare y6' ⊢ (dats m 0 c).leavesExact 6 t)
    (h7 : owns (c : Thread nD τ) (st0_7 t) fullShare y7' ⊢ (dats m 0 c).leavesExact 7 t) :
    iprop(held c (st0_0 t) (st0_1 t) (st0_2 t) (st0_3 t) (st0_4 t) (st0_5 t) (st0_6 t) (st0_7 t) (Memref.whole cc0_scratch0) (Memref.whole cc0_scratch1) (Memref.whole cc0_scratch2)
          (iblk m c 0 t) (iblk m c 1 t) (iblk m c 2 t) (iblk m c 3 t) (iblk m c 4 t) (iblk m c 5 t) y6 y7 X A S
        ∗ (dats m 0 c).owesAt () t.castSucc ∗ (∃ r, prngReg c r))
      ⊢ wp frame (wpE (defs₀ (F := F)) Variants.none c none) Set.univ (bodyAt0 t) (fun _ => bodyPost m c t) := by
  iintro ⟨H, Ho, Hg⟩
  iapply (hrun Set.univ (fun _ => bodyPost m c t))
  isplitl [H]; · iexact H
  unfold bodyPost held
  rw [show (dats m 0 c).owesAt () t.succ = (dats m 0 c).owesAt () t.castSucc from rfl,
    show (dats m 0 c).Φ t.succ = PhiS m c (t.val + 1) from rfl,
    leaves_in m c 0 t rfl, leaves_in m c 1 t rfl, leaves_in m c 2 t rfl, leaves_in m c 3 t rfl, leaves_in m c 4 t rfl, leaves_in m c 5 t rfl,
    after0_0, after0_1, after0_2, after0_3, after0_4, after0_5]
  unfold PhiS
  iintro ⟨H0, H1, H2, H3, H4, H5, H6, H7, H8, H9, H10⟩
  isplitl [H8 H9 H10 Hg]
  · iexists X', A', S'
    isplitr; · ipureintro; exact hI
    isplitl [H8]; · iexact H8
    isplitl [H9]; · iexact H9
    isplitl [H10]; · iexact H10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  iapply h7; iexact H7

/-! ### The scratch from point to point -/

theorem bx_val (t : Fin cfg0.N) : bx m c t.val = iblk m c 0 t := by unfold bx; rw [pt_val]
theorem bg_val (t : Fin cfg0.N) : bg m c t.val = iblk m c 1 t := by unfold bg; rw [pt_val]
theorem bu_val (t : Fin cfg0.N) : bu m c t.val = iblk m c 2 t := by unfold bu; rw [pt_val]
theorem bd_val (t : Fin cfg0.N) : bd m c t.val = iblk m c 3 t := by unfold bd; rw [pt_val]
theorem bγ_val (t : Fin cfg0.N) : bγ m c t.val = iblk m c 4 t := by unfold bγ; rw [pt_val]
theorem bβ_val (t : Fin cfg0.N) : bβ m c t.val = iblk m c 5 t := by unfold bβ; rw [pt_val]

variable {m c} {n : ℕ} {X : Vec F S512x2048 .bf16} {A S : Vec F S512x2048 .f32}

/-- After the first block of columns of a row block. -/
theorem Inv.first (h0 : n % 11 = 0) (hn : n < 187) (h : Inv m c n X A S) :
    Inv m c (n + 1) (k0_pay9 (bx m c n)) (k0_pay10 (bx m c n) (bg m c n) (bu m c n) (bd m c n)) S where
  hX _ _ := by rw [show (n + 1) / 11 = n / 11 by omega, rows, show 11 * (n / 11) = n by omega]
  hA _ _ := by rw [show (n + 1) / 11 = n / 11 by omega, show (n + 1) % 11 - 1 = 0 by omega, sums, show 11 * (n / 11) = n by omega]
  hS hm := (h.hS (by omega)).trans (by rw [show (n + 1) / 11 = n / 11 by omega])

/-- After a block of columns between the first and the last. -/
theorem Inv.mid (h0 : n % 11 ≠ 0) (h1 : n % 11 ≠ 10) (hn : n < 187) (h : Inv m c n X A S) :
    Inv m c (n + 1) X (k0_pay6 A X (bg m c n) (bu m c n) (bd m c n)) S where
  hX _ _ := (h.hX h0 hn).trans (by rw [show (n + 1) / 11 = n / 11 by omega])
  hA _ _ := by
    rw [show (n + 1) / 11 = n / 11 by omega, show (n + 1) % 11 - 1 = (n % 11 - 1) + 1 by omega, sums, show 11 * (n / 11) + ((n % 11 - 1) + 1) = n by omega,
      ← h.hX h0 hn, ← h.hA h0 hn]
  hS hm := (h.hS (by omega)).trans (by rw [show (n + 1) / 11 = n / 11 by omega])

/-- After the last block of columns. -/
theorem Inv.last (h1 : n % 11 = 10) (hn : n < 187) (h : Inv m c n X A S) :
    Inv m c (n + 1) X A (k0_pay7 (bx m c n) A X (bg m c n) (bu m c n) (bd m c n)) where
  hX h _ := absurd h (by omega)
  hA h _ := absurd h (by omega)
  hS hm := by
    have hX := h.hX (by omega) hn
    have hA := h.hA (by omega) hn
    rw [show n % 11 - 1 = 9 by omega] at hA
    rw [show min ((n + 1) / 11 - 1) 16 = n / 11 by omega, full, show 11 * (n / 11) + 10 = n by omega, ← hX, ← hA]

/-- In the grid's last row. -/
theorem Inv.rest (hn : 187 ≤ n) (hN : n < 198) (h : Inv m c n X A S) : Inv m c (n + 1) X A S where
  hX _ h := absurd h (by omega)
  hA _ h := absurd h (by omega)
  hS hm := (h.hS (by omega)).trans (by rw [show min ((n + 1) / 11 - 1) 16 = min (n / 11 - 1) 16 by omega])

variable (m c)

theorem keep6 (t : Fin cfg0.N) (h : ¬(t.val % 11 = 0 ∧ 11 ≤ t.val ∧ t.val < 187)) (d) :
    owns (c : Thread nD τ) (st0_6 t) fullShare ((dats m 0 c).before 6 t d) ⊢ (dats m 0 c).leavesExact 6 t :=
  keep m c 6 t ((idle6 t).trans (by rw [decide_eq_false h]; rfl)) (before6 m c t) d

theorem keep7 (t : Fin cfg0.N) (h : t.val ≠ 187) (d) :
    owns (c : Thread nD τ) (st0_7 t) fullShare ((dats m 0 c).before 7 t d) ⊢ (dats m 0 c).leavesExact 7 t :=
  keep m c 7 t ((idle7 t).trans (by rw [decide_eq_false h]; rfl)) (before7 m c t) d

/-- The body's triple at each point. -/
theorem sound_body (t : Fin cfg0.N) :
    bodyPre m c t ⊢ wp frame (wpE (defs₀ (F := F)) Variants.none c none) Set.univ (bodyAt0 t) (fun _ => bodyPost m c t) := by
  have hN : t.val < 198 := lt_of_lt_of_eq t.isLt (show cfg0.N = 198 from N_0)
  unfold bodyPre
  rw [show (dats m 0 c).Φ t.castSucc = PhiS m c t.val from rfl]
  unfold PhiS
  iintro ⟨⟨%X, %A, %S, %hI, HX, HA, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0, before0_1, before0_2, before0_3, before0_4, before0_5]
  have key : iprop(held c (st0_0 t) (st0_1 t) (st0_2 t) (st0_3 t) (st0_4 t) (st0_5 t) (st0_6 t) (st0_7 t) (Memref.whole cc0_scratch0) (Memref.whole cc0_scratch1) (Memref.whole cc0_scratch2)
          (iblk m c 0 t) (iblk m c 1 t) (iblk m c 2 t) (iblk m c 3 t) (iblk m c 4 t) (iblk m c 5 t) ((dats m 0 c).before 6 t d6) ((dats m 0 c).before 7 t d7) X A S
        ∗ (dats m 0 c).owesAt () t.castSucc ∗ (∃ r, prngReg c r)) ⊢ wp frame (wpE (defs₀ (F := F)) Variants.none c none) Set.univ (bodyAt0 t) (fun _ => bodyPost m c t) := by
    by_cases h0 : t.val = 0
    · exact point m c t _ _ _ _ _ _ _ _ _ _
        (run_first c (grid0.coords t) _ _ _ _ _ _ _ _ _ _ _ _ _ _ _ _ _ _ _ _ _ _ _ _ _ _ _ _ _ _ _ _ _ ((firstOf_iff t).2 h0) (fun h => absurd ((nextOf_iff t).1 h) (by omega)) (fun h => absurd ((pastOf_iff t).1 h) (by omega)) (fun h => absurd ((midOf_iff t).1 h) (by omega)) (fun h => absurd ((lastOf_iff t).1 h) (by omega)))
        (by have := hI.first (by omega) (by omega); rw [bx_val, bg_val, bu_val, bd_val] at this; exact this)
        (keep6 m c t (by omega) d6) (keep7 m c t (by omega) d7)
    by_cases h1 : t.val % 11 = 0 ∧ 11 ≤ t.val ∧ t.val < 187
    · exact point m c t _ _ _ _ _ _ _ _ _ _
        (run_next c (grid0.coords t) _ _ _ _ _ _ _ _ _ _ _ _ _ _ _ _ _ _ _ _ _ _ _ _ _ _ _ _ _ _ _ _ _ (fun h => absurd ((firstOf_iff t).1 h) (by omega)) ((nextOf_iff t).2 h1) (fun h => absurd ((pastOf_iff t).1 h) (by omega)) (fun h => absurd ((midOf_iff t).1 h) (by omega)) (fun h => absurd ((lastOf_iff t).1 h) (by omega)))
        (by have := hI.first (by omega) (by omega); rw [bx_val, bg_val, bu_val, bd_val] at this; exact this)
        (by
          rw [leaves_in m c 6 t ((idle6 t).trans (by rw [decide_eq_true h1]; rfl)), after0_6, outMain, show 11 * (min (t.val / 11 - 1) 15 + 1) = t.val by omega,
            bγ_val, bβ_val, hI.hS (by omega), show min (t.val / 11 - 1) 16 = min (t.val / 11 - 1) 15 by omega])
        (keep7 m c t (by omega) d7)
    by_cases h2 : t.val = 187
    · exact point m c t _ _ _ _ _ _ _ _ _ _
        (run_past c (grid0.coords t) _ _ _ _ _ _ _ _ _ _ _ _ _ _ _ _ _ _ _ _ _ _ _ _ _ _ _ _ _ _ _ _ _ (fun h => absurd ((firstOf_iff t).1 h) (by omega)) (fun h => absurd ((nextOf_iff t).1 h) (by omega)) ((pastOf_iff t).2 h2) (fun h => absurd ((midOf_iff t).1 h) (by omega)) (fun h => absurd ((lastOf_iff t).1 h) (by omega)))
        (hI.rest (by omega) hN) (keep6 m c t (by omega) d6)
        (by
          rw [leaves_in m c 7 t ((idle7 t).trans (by rw [decide_eq_true h2]; rfl)), after0_7, outLast, ← h2,
            bγ_val, bβ_val, hI.hS (by omega), show min (t.val / 11 - 1) 16 = 16 by omega])
    by_cases h3 : t.val < 187 ∧ t.val % 11 ≠ 0 ∧ t.val % 11 ≠ 10
    · exact point m c t _ _ _ _ _ _ _ _ _ _
        (run_mid c (grid0.coords t) _ _ _ _ _ _ _ _ _ _ _ _ _ _ _ _ _ _ _ _ _ _ _ _ _ _ _ _ _ _ _ _ _ (fun h => absurd ((firstOf_iff t).1 h) (by omega)) (fun h => absurd ((nextOf_iff t).1 h) (by omega)) (fun h => absurd ((pastOf_iff t).1 h) (by omega)) ((midOf_iff t).2 h3) (fun h => absurd ((lastOf_iff t).1 h) (by omega)))
        (by have := hI.mid (by omega) (by omega) (by omega); rw [bg_val, bu_val, bd_val] at this; exact this)
        (keep6 m c t (by omega) d6) (keep7 m c t (by omega) d7)
    by_cases h4 : t.val < 187 ∧ t.val % 11 = 10
    · exact point m c t _ _ _ _ _ _ _ _ _ _
        (run_last c (grid0.coords t) _ _ _ _ _ _ _ _ _ _ _ _ _ _ _ _ _ _ _ _ _ _ _ _ _ _ _ _ _ _ _ _ _ (fun h => absurd ((firstOf_iff t).1 h) (by omega)) (fun h => absurd ((nextOf_iff t).1 h) (by omega)) (fun h => absurd ((pastOf_iff t).1 h) (by omega)) (fun h => absurd ((midOf_iff t).1 h) (by omega)) ((lastOf_iff t).2 h4))
        (by have := hI.last (by omega) (by omega); rw [bx_val, bg_val, bu_val, bd_val] at this; exact this)
        (keep6 m c t (by omega) d6) (keep7 m c t (by omega) d7)
    exact point m c t _ _ _ _ _ _ _ _ _ _
      (run_none c (grid0.coords t) _ _ _ _ _ _ _ _ _ _ _ _ _ _ _ _ _ _ _ _ _ _ _ _ _ _ _ _ _ _ _ _ _ (fun h => absurd ((firstOf_iff t).1 h) (by omega)) (fun h => absurd ((nextOf_iff t).1 h) (by omega)) (fun h => absurd ((pastOf_iff t).1 h) (by omega)) (fun h => absurd ((midOf_iff t).1 h) (by omega)) (fun h => absurd ((lastOf_iff t).1 h) (by omega)))
      (hI.rest (by omega) hN) (keep6 m c t (by omega) d6) (keep7 m c t (by omega) d7)
  iapply key
  unfold held
  isplitl [H0 H1 H2 H3 H4 H5 H6 H7 HX HA HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HX]; · iexact HX
    isplitl [HA]; · iexact HA
    iexact HS
  isplitl [Ho]; · iexact Ho
  iexact Hg

/-! ## The launch -/

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-- What the pipeline's region is entered with. -/
theorem entered :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem hin : Pipeline.ΦA spec0 c ⊢ (dats m 0 c).Φ 0 := by
  rw [show (dats m 0 c).Φ 0 = PhiS m c 0 from rfl, entered]
  unfold PhiS
  iintro ⟨⟨⟨%X, HX⟩, ⟨%A, HA⟩, ⟨%S, HS⟩⟩, Hg⟩
  iexists X, A, S
  isplitr; · ipureintro; exact ⟨fun h => absurd rfl h, fun h => absurd rfl h, fun h => absurd h (by omega)⟩
  isplitl [HX]; · iexact HX
  isplitl [HA]; · iexact HA
  isplitl [HS]; · iexact HS
  iexact Hg

theorem hout : (dats m 0 c).Φ (Fin.last cfg0.N) ⊢ Pipeline.ΦA spec0 c := by
  rw [show (dats m 0 c).Φ (Fin.last cfg0.N) = PhiS m c cfg0.N from rfl, entered]
  unfold PhiS
  iintro ⟨%X, %A, %S, %hI, HX, HA, HS, Hg⟩
  isplitl [HX HA HS]
  · isplitl [HX]; · iexists X; iexact HX
    isplitl [HA]; · iexists A; iexact HA
    iexists S; iexact HS
  iexact Hg

set_option backward.isDefEq.respectTransparency.types false in
/-- Every run ends with the pipeline's arrays as its proof data say, and with every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnOutIdeal.Body

end

end
-- ==== Proof.FfnOut.Spec.lean ====
/- What the second feed-forward half computes: a gated feed-forward network added to the rows it reads, in the
   proportions of the block, and normalised row by row. -/
module

public import proofs.«01_k».proof.Proof.Gen.FfnOutIdeal
public import Idealize.ShloMosaic.Lib.Pipeline.ValueKit
public import Idealize.ShloMosaic.Lib.Pointwise

@[expose] public section

set_option maxRecDepth 16384

noncomputable section

namespace Cert.Ffn

open Cert.FfnOutIdeal Idealize.ShloMosaic

/-- A row's hidden value: its product with a gate column, through the activation, times its product with an up column. -/
def hidden (x g u : Fin 2048 → EReal) : EReal :=
  (∑ k, x k * g k) * Ideal.logistic (∑ k, x k * g k) * ∑ k, x k * u k

/-- Hidden column `j`'s part of the network's result at column `q`; nothing past the last hidden column. -/
def term (w : FVec Ideal S1x2048x11264 .f32) (d : FVec Ideal S1x5632x2048 .f32) (x : Fin 2048 → EReal) (q : Fin 2048) (j : ℕ) : EReal :=
  if h : j < 5632 then hidden x (fun k => w (ix3 0 k ⟨j, by omega⟩)) (fun k => w (ix3 0 k ⟨5632 + j, by omega⟩)) * d (ix3 0 ⟨j, h⟩ q) else 0

/-- A row with the network's result added, each in its proportion. -/
def added (w : FVec Ideal S1x2048x11264 .f32) (d : FVec Ideal S1x5632x2048 .f32) (x : Fin 2048 → EReal) (q : Fin 2048) : EReal :=
  Ideal.ofBits .f32 0x3F9837F0#32 * x q + Ideal.ofBits .f32 0x3F000000#32 * ∑ j : Fin 5632, term w d x q j

/-- A row's mean. -/
def mean (s : Fin 2048 → EReal) : EReal := Ideal.div (∑ q, s q) (Ideal.ofBits .f32 0x45000000#32)

/-- A row normalised, scaled and shifted. -/
def norm (s γ β : Fin 2048 → EReal) (q : Fin 2048) : EReal :=
  (s q - mean s) * Ideal.rsqrt (mean (fun q => (s q - mean s) * (s q - mean s)) + Ideal.ofBits .f32 0x3727C5AC#32) * γ q + β q

/-- Entry `(a, q)` of the result. -/
def out (x : FVec Ideal S8704x2048 .f32) (w : FVec Ideal S1x2048x11264 .f32) (d : FVec Ideal S1x5632x2048 .f32) (γ β : FVec Ideal S1x2048 .f32)
    (a : Fin 8704) (q : Fin 2048) : EReal :=
  norm (added w d fun k => x (ix2 a k)) (fun q => γ (ix2 0 q)) (fun q => β (ix2 0 q)) q

/-- The result's rows but the last 512. -/
def outMost (x : FVec Ideal S8704x2048 .f32) (w : FVec Ideal S1x2048x11264 .f32) (d : FVec Ideal S1x5632x2048 .f32) (γ β : FVec Ideal S1x2048 .f32) :
    FVec Ideal S8192x2048 .f32 := fun i => out x w d γ β ⟨(i 0).val, lt_of_lt_of_le (i 0).isLt (by decide : 8192 ≤ 8704)⟩ (i 1)

/-- Its last 512 rows. -/
def outRest (x : FVec Ideal S8704x2048 .f32) (w : FVec Ideal S1x2048x11264 .f32) (d : FVec Ideal S1x5632x2048 .f32) (γ β : FVec Ideal S1x2048 .f32) :
    FVec Ideal S512x2048 .f32 := fun i => out x w d γ β ⟨8192 + (i 0).val, Nat.add_lt_add_left (i 0).isLt 8192⟩ (i 1)

end Cert.Ffn

end

end
-- ==== Proof.FfnOut.Kernel.lean ====
/- The second feed-forward kernel's results: each block of rows summed over the blocks of hidden columns is the
   network's sum over all of them, normalised. -/
module

public import proofs.«01_k».proof.Proof.FfnOut.Frame
public import proofs.«01_k».proof.Proof.FfnOut.Spec
public import Idealize.ShloMosaic.Lib.Pipeline.Value

@[expose] public section

set_option maxRecDepth 16384

noncomputable section

namespace Cert.Ffn

open Cert.FfnOutIdeal Cert.FfnOutIdeal.Gen Cert.FfnOutIdeal.Body Idealize.ShloMosaic Idealize.ShloMosaic.TcCoe Idealize.SL.Sem
open Idealize.ShloMosaic.Pipeline (Dat)

variable (m : (ℓ : Loc nD τ sig) → Buf (Elt Ideal) ℓ) (c : Dev nD)

/-! ## The body's arithmetic, entry by entry -/

/-- One block of hidden columns' part. -/
def part (x : Fin 2048 → EReal) (g u : Vec Ideal S2048x512 .bf16) (d : Vec Ideal S512x2048 .bf16) (q : Fin 2048) : EReal :=
  ∑ l : Fin 512, hidden x (fun k => g (ix2 k l)) (fun k => u (ix2 k l)) * d (ix2 l q)

theorem pay9_at (x : Vec Ideal S512x2048 .f32) (r : Fin 512) (k : Fin 2048) : (k0_pay9 (F := Ideal) x (ix2 r k) : EReal) = x (ix2 r k) := by
  unfold k0_pay9 k0_pay8
  pointwise

theorem pay10_at (x : Vec Ideal S512x2048 .f32) (g u : Vec Ideal S2048x512 .bf16) (d : Vec Ideal S512x2048 .bf16) (r : Fin 512) (q : Fin 2048) :
    k0_pay10 (F := Ideal) x g u d (ix2 r q) = part (fun k => x (ix2 r k)) g u d q := by
  unfold k0_pay10 k0_pay8 part hidden
  pointwise

theorem pay6_at (A : Vec Ideal S512x2048 .f32) (X : Vec Ideal S512x2048 .bf16) (g u : Vec Ideal S2048x512 .bf16) (d : Vec Ideal S512x2048 .bf16) (r : Fin 512) (q : Fin 2048) :
    k0_pay6 (F := Ideal) A X g u d (ix2 r q) = A (ix2 r q) + part (fun k => X (ix2 r k)) g u d q := by
  unfold k0_pay6 part hidden
  pointwise

theorem pay7_at (x A : Vec Ideal S512x2048 .f32) (X : Vec Ideal S512x2048 .bf16) (g u : Vec Ideal S2048x512 .bf16) (d : Vec Ideal S512x2048 .bf16) (r : Fin 512) (q : Fin 2048) :
    k0_pay7 (F := Ideal) x A X g u d (ix2 r q)
      = Ideal.ofBits .f32 0x3F9837F0#32 * x (ix2 r q) + Ideal.ofBits .f32 0x3F000000#32 * (A (ix2 r q) + part (fun k => X (ix2 r k)) g u d q) := by
  unfold k0_pay7 part hidden
  pointwise

theorem pay4_at (s : Vec Ideal S512x2048 .f32) (γ β : Vec Ideal S1x2048 .f32) (r : Fin 512) (q : Fin 2048) :
    k0_pay4 (F := Ideal) (k0_pay11 γ) (k0_pay12 β) (k0_pay13 s) (k0_pay14 s) (ix2 r q)
      = norm (fun q => s (ix2 r q)) (fun q => γ (ix2 0 q)) (fun q => β (ix2 0 q)) q := by
  unfold k0_pay4 k0_pay11 k0_pay12 k0_pay14 k0_pay13 norm mean
  pointwise

theorem pay5_at (s : Vec Ideal S512x2048 .f32) (γ β : Vec Ideal S1x2048 .f32) (r : Fin 512) (q : Fin 2048) :
    k0_pay5 (F := Ideal) s γ β (ix2 r q)
      = norm (fun q => s (ix2 r q)) (fun q => γ (ix2 0 q)) (fun q => β (ix2 0 q)) q := by
  unfold k0_pay5 norm mean
  pointwise

/-! ## The blocks it reads -/

/-- The block that each window is at, point by point. -/
theorem idx : ∀ t : Fin grid0.N, win0_0.index t = ![min (t.val / 11) 16, 0]
    ∧ (t.val < 187 → win0_1.index t = ![0, t.val % 11] ∧ win0_2.index t = ![0, 11 + t.val % 11] ∧ win0_3.index t = ![t.val % 11, 0])
    ∧ win0_4.index t = ![0, 0] ∧ win0_5.index t = ![0, 0]
    ∧ win0_6.index t = ![min (t.val / 11 - 1) 15, 0] ∧ win0_7.index t = ![0, 0] := by
  decide +kernel

/-- The weights as the kernel reads them. -/
theorem w_entry (k : Fin 2048) (j : Fin 11264) : (V m c main_v1 (ix2 k j) : EReal) = m ((c : Thread nD τ).loc main_arg1) (ix3 0 k j) := by
  entry_read
  pointwise

theorem d_entry (j : Fin 5632) (q : Fin 2048) : (V m c main_v3 (ix2 j q) : EReal) = m ((c : Thread nD τ).loc main_arg2) (ix3 0 j q) := by
  entry_read
  pointwise

theorem γ_entry (q : Fin 2048) : (V m c main_v5 (ix2 0 q) : EReal) = m ((c : Thread nD τ).loc main_arg3) (ix2 0 q) := by
  entry_read
  pointwise

theorem β_entry (q : Fin 2048) : (V m c main_v7 (ix2 0 q) : EReal) = m ((c : Thread nD τ).loc main_arg4) (ix2 0 q) := by
  entry_read
  pointwise

theorem x_block (t : Fin cfg0.N) (r : Fin 512) (k : Fin 2048) (a : Fin 8704) (h : a.val = min (t.val / 11) 16 * 512 + r.val) :
    (iblk m c 0 t (ix2 r k) : EReal) = m ((c : Thread nD τ).loc main_arg0) (ix2 a k) := by
  blk_ext [iblk, (idx t).1, h]

theorem g_block (t : Fin cfg0.N) (ht : t.val < 187) (k : Fin 2048) (l : Fin 512) (j : Fin 11264) (h : j.val = t.val % 11 * 512 + l.val) :
    (iblk m c 1 t (ix2 k l) : EReal) = V m c main_v1 (ix2 k j) := by
  blk_ext [iblk, ((idx t).2.1 ht).1, h]

theorem u_block (t : Fin cfg0.N) (ht : t.val < 187) (k : Fin 2048) (l : Fin 512) (j : Fin 11264) (h : j.val = (11 + t.val % 11) * 512 + l.val) :
    (iblk m c 2 t (ix2 k l) : EReal) = V m c main_v1 (ix2 k j) := by
  blk_ext [iblk, ((idx t).2.1 ht).2.1, h]

theorem d_block (t : Fin cfg0.N) (ht : t.val < 187) (l : Fin 512) (q : Fin 2048) (j : Fin 5632) (h : j.val = t.val % 11 * 512 + l.val) :
    (iblk m c 3 t (ix2 l q) : EReal) = V m c main_v3 (ix2 j q) := by
  blk_ext [iblk, ((idx t).2.1 ht).2.2, h]

theorem γ_block (t : Fin cfg0.N) (q : Fin 2048) : (iblk m c 4 t (ix2 0 q) : EReal) = V m c main_v5 (ix2 0 q) := by
  blk_ext [iblk, (idx t).2.2.1]

theorem β_block (t : Fin cfg0.N) (q : Fin 2048) : (iblk m c 5 t (ix2 0 q) : EReal) = V m c main_v7 (ix2 0 q) := by
  blk_ext [iblk, (idx t).2.2.2.1]

/-! ## The sum over the blocks -/

/-- Row `a` of the activations. -/
abbrev row (a : Fin 8704) : Fin 2048 → EReal := fun k => m ((c : Thread nD τ).loc main_arg0) (ix2 a k)

/-- Hidden column `j`'s part of row `a`'s result at column `q`. -/
abbrev termAt (a : Fin 8704) (q : Fin 2048) (j : ℕ) : EReal :=
  term (m ((c : Thread nD τ).loc main_arg1)) (m ((c : Thread nD τ).loc main_arg2)) (row m c a) q j

theorem pt_of (n : ℕ) (h : n < 198) : (pt n).val = n := Nat.mod_eq_of_lt h

/-- A block of rows at any point of its row of the grid. -/
theorem bx_at (i f : ℕ) (hi : i ≤ 16) (hf : f ≤ 10) (r : Fin 512) (k : Fin 2048) (a : Fin 8704) (h : a.val = i * 512 + r.val) :
    (bx m c (11 * i + f) (ix2 r k) : EReal) = row m c a k :=
  x_block m c _ r k a (by rw [pt_of _ (by omega), show min ((11 * i + f) / 11) 16 = i by omega]; exact h)

theorem rows_at (i : ℕ) (hi : i ≤ 16) (r : Fin 512) (k : Fin 2048) (a : Fin 8704) (h : a.val = i * 512 + r.val) :
    (Body.rows m c i (ix2 r k) : EReal) = row m c a k :=
  (pay9_at _ r k).trans (bx_at m c i 0 hi (by omega) r k a h)

/-- A block of hidden columns' part, as the network's. -/
theorem part_at (i f : ℕ) (hi : i ≤ 16) (hf : f ≤ 10) (a : Fin 8704) (x : Fin 2048 → EReal) (hx : x = row m c a) (q : Fin 2048) :
    part x (bg m c (11 * i + f)) (bu m c (11 * i + f)) (bd m c (11 * i + f)) q = ∑ l : Fin 512, termAt m c a q (f * 512 + l.val) := by
  subst hx
  have hp : (pt (11 * i + f)).val = 11 * i + f := pt_of _ (by omega)
  have hm : (11 * i + f) % 11 = f := by omega
  unfold part
  refine Finset.sum_congr rfl fun l _ => ?_
  have hl := l.isLt
  unfold termAt term
  rw [dif_pos (by omega)]
  refine congrArg₂ (· * ·) (congrArg₂ (hidden _) (funext fun k => ?_) (funext fun k => ?_)) ?_
  · exact (g_block m c _ (by rw [hp]; omega) k l ⟨f * 512 + l.val, by omega⟩ (by rw [hp, hm])).trans (w_entry m c k _)
  · exact (u_block m c _ (by rw [hp]; omega) k l ⟨5632 + (f * 512 + l.val), by omega⟩ (by rw [hp, hm]; show 5632 + _ = _; omega)).trans (w_entry m c k _)
  · exact (d_block m c _ (by rw [hp]; omega) l q ⟨f * 512 + l.val, by omega⟩ (by rw [hp, hm])).trans (d_entry m c _ q)

/-- The scratch's sum after block `f` of hidden columns. -/
theorem sums_at (i : ℕ) (hi : i ≤ 16) (r : Fin 512) (q : Fin 2048) (a : Fin 8704) (h : a.val = i * 512 + r.val) : ∀ f ≤ 10,
    (sums m c i f (ix2 r q) : EReal) = ∑ b ∈ Finset.range (f + 1), ∑ l : Fin 512, termAt m c a q (b * 512 + l.val)
  | 0, _ => by
    rw [sums, pay10_at, Finset.sum_range_one]
    exact part_at m c i 0 hi (by omega) a _ (funext fun k => bx_at m c i 0 hi (by omega) r k a h) q
  | f + 1, hf => by
    rw [sums, pay6_at, Finset.sum_range_succ, sums_at i hi r q a h f (by omega)]
    exact congrArg _ (part_at m c i (f + 1) hi hf a _ (funext fun k => rows_at m c i hi r k a h) q)

/-- The row block with the whole sum added. -/
theorem full_at (i : ℕ) (hi : i ≤ 16) (r : Fin 512) (q : Fin 2048) (a : Fin 8704) (h : a.val = i * 512 + r.val) :
    (full m c i (ix2 r q) : EReal) = added (m ((c : Thread nD τ).loc main_arg1)) (m ((c : Thread nD τ).loc main_arg2)) (row m c a) q := by
  rw [full, pay7_at, added, Fin.sum_univ_eq_sum_range (fun j => termAt m c a q j) 5632, Finset.sum_range_mul_split 11 512,
    Finset.sum_range_succ, sums_at m c i hi r q a h 9 (by omega), part_at m c i 10 hi (by omega) a _ (funext fun k => rows_at m c i hi r k a h) q,
    bx_at m c i 10 hi (by omega) r q a h]
  simp only [← Fin.sum_univ_eq_sum_range]

/-- A normalised row block's entries. -/
theorem normal_at (i n : ℕ) (hi : i ≤ 16) (r : Fin 512) (q : Fin 2048) (a : Fin 8704) (h : a.val = i * 512 + r.val) :
    norm (fun q => full m c i (ix2 r q)) (fun q => bγ m c n (ix2 0 q)) (fun q => bβ m c n (ix2 0 q)) q
      = out (m ((c : Thread nD τ).loc main_arg0)) (m ((c : Thread nD τ).loc main_arg1)) (m ((c : Thread nD τ).loc main_arg2))
          (m ((c : Thread nD τ).loc main_arg3)) (m ((c : Thread nD τ).loc main_arg4)) a q := by
  unfold out
  rw [show (fun q => full m c i (ix2 r q)) = added _ _ (row m c a) from funext fun q => full_at m c i hi r q a h,
    show (fun q => bγ m c n (ix2 0 q)) = _ from funext fun q => (γ_block m c _ q).trans (γ_entry m c q),
    show (fun q => bβ m c n (ix2 0 q)) = _ from funext fun q => (β_block m c _ q).trans (β_entry m c q)]

theorem outMain_at (i : ℕ) (hi : i ≤ 15) (r : Fin 512) (q : Fin 2048) (a : Fin 8704) (h : a.val = i * 512 + r.val) :
    (outMain m c i (ix2 r q) : EReal) = out (m ((c : Thread nD τ).loc main_arg0)) (m ((c : Thread nD τ).loc main_arg1)) (m ((c : Thread nD τ).loc main_arg2))
          (m ((c : Thread nD τ).loc main_arg3)) (m ((c : Thread nD τ).loc main_arg4)) a q :=
  (pay4_at _ _ _ r q).trans (normal_at m c i _ (by omega) r q a h)

theorem outLast_at (r : Fin 512) (q : Fin 2048) (a : Fin 8704) (h : a.val = 16 * 512 + r.val) :
    (outLast m c (ix2 r q) : EReal) = out (m ((c : Thread nD τ).loc main_arg0)) (m ((c : Thread nD τ).loc main_arg1)) (m ((c : Thread nD τ).loc main_arg2))
          (m ((c : Thread nD τ).loc main_arg3)) (m ((c : Thread nD τ).loc main_arg4)) a q :=
  (pay5_at _ _ _ r q).trans (normal_at m c 16 _ (by omega) r q a h)

/-! ## The arrays after the run -/

theorem final6 : (dats m 0 c).arrAt 6 cfg0.N
    = outMost (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have e0 := Pipeline.Window.rect_emb_val win0_6 t y 0
  have e1 := Pipeline.Window.rect_emb_val win0_6 t y 1
  rw [(idx t).2.2.2.2.1] at e0 e1
  change _ = min (t.val / 11 - 1) 15 * 512 + (y 0).val at e0
  change _ = 0 * 2048 + (y 1).val at e1
  rw [after0_6]
  refine (congrArg (outMain m c _) (eq_ix2 y)).trans ((outMain_at m c _ (by omega) (y 0) (y 1) ⟨_, lt_of_lt_of_le (((cfg0.win 6).rect t).emb y 0).isLt (by decide : 8192 ≤ 8704)⟩ e0).trans ?_)
  exact congrArg (out _ _ _ _ _ _) (Fin.ext (by rw [← Nat.zero_add (y 1).val, ← Nat.zero_mul 2048]; exact e1.symm))

theorem final7 : (dats m 0 c).arrAt 7 cfg0.N
    = outRest (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have e0 := Pipeline.Window.rect_emb_val win0_7 t y 0
  have e1 := Pipeline.Window.rect_emb_val win0_7 t y 1
  rw [(idx t).2.2.2.2.2] at e0 e1
  change _ = 0 * 512 + (y 0).val at e0
  change _ = 0 * 2048 + (y 1).val at e1
  rw [after0_7]
  refine (congrArg (outLast m c) (eq_ix2 y)).trans ((outLast_at m c (y 0) (y 1) ⟨8192 + _, Nat.add_lt_add_left (((cfg0.win 7).rect t).emb y 0).isLt 8192⟩ (congrArg (8192 + ·) (e0.trans (by omega)))).trans ?_)
  exact congrArg (out _ _ _ _ _ _) (Fin.ext (by rw [← Nat.zero_add (y 1).val, ← Nat.zero_mul 2048]; exact e1.symm))

/-- The run, read: the results at the rows normalised, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8_0)
        = outMost (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v8_1)
        = outRest (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 6).trans (final6 m c), ((h.1 c).1 7).trans (final7 m c), h.2 c⟩)
    (θ_run_and (run_main m ρ) (unchanged m ρ))

end Cert.Ffn

end

end
-- ==== Proof.FfnOut.Reference.lean ====
/- The reference's results are the rows normalised: its whole-array operations read entry by entry. -/
module

public import proofs.«01_k».proof.Proof.Gen.FfnOutRefIdeal.Run
public import proofs.«01_k».proof.Defs
public import proofs.«01_k».proof.Proof.FfnOut.Spec
public import Idealize.ShloMosaic.Lib.Quiescent
public import Idealize.ShloMosaic.Lib.IdealHost

@[expose] public section

set_option maxRecDepth 16384

noncomputable section

namespace Cert.Ffn

open Cert.FfnOutRefIdeal Cert.FfnOutRefIdeal.Gen Idealize.ShloMosaic Idealize.ShloMosaic.TcCoe Idealize.SL.Sem

/-- The activation as the reference writes it. -/
theorem logistic_eq (a : EReal) : Ideal.div (Ideal.ofBits .f32 0x3F800000#32) (Ideal.ofBits .f32 0x3F800000#32 + Ideal.exp (-a)) = Ideal.logistic a := by
  rw [Ideal.ofBits_one_f32]
  rfl

/-- The products of the rows with the gate and up columns. -/
def products (x : FVec Ideal S8704x2048 .f32) (w : FVec Ideal S1x2048x11264 .f32) : FVec Ideal S8704x11264 .f32 :=
  Host.dotGeneral dot_S8704x2048_S2048x11264_S8704x11264_1_0_0_1_n_n none x (shapeCast _ w shapeCasts_S1x2048x11264_S2048x11264)

/-- The gate half. -/
def gates (p : FVec Ideal S8704x11264 .f32) : FVec Ideal S8704x5632 .f32 := extractStridedSlice S8704x5632 ![0, 0] p slices_S8704x11264_S8704x5632_0_0

/-- The hidden values. -/
def hiddens (p : FVec Ideal S8704x11264 .f32) : FVec Ideal S8704x5632 .f32 :=
  mulf (mulf (gates p) (Host.divf (broadcastInDim S8704x5632 ![] bcast_S_S8704x5632 (constant S_ .f32 0x3F800000#32 : FVec Ideal S_ .f32))
      (addf (broadcastInDim S8704x5632 ![] bcast_S_S8704x5632 (constant S_ .f32 0x3F800000#32 : FVec Ideal S_ .f32)) (Host.exp (Host.negf (gates p))))))
    (extractStridedSlice S8704x5632 ![0, 5632] p slices_S8704x11264_S8704x5632_0_5632)

/-- The rows with the network's result added. -/
def addeds (x : FVec Ideal S8704x2048 .f32) (h : FVec Ideal S8704x5632 .f32) (d : FVec Ideal S1x5632x2048 .f32) : FVec Ideal S8704x2048 .f32 :=
  addf (mulf (broadcastInDim S8704x2048 ![] bcast_S_S8704x2048 (constant S_ .f32 0x3F9837F0#32 : FVec Ideal S_ .f32)) x)
    (mulf (broadcastInDim S8704x2048 ![] bcast_S_S8704x2048 (constant S_ .f32 0x3F000000#32 : FVec Ideal S_ .f32))
      (Host.dotGeneral dot_S8704x5632_S5632x2048_S8704x2048_1_0_0_1_n_n none h (shapeCast _ d shapeCasts_S1x5632x2048_S5632x2048)))

/-- The rows' means. -/
def means (s : FVec Ideal S8704x2048 .f32) : FVec Ideal S8704x1 .f32 :=
  Host.divf (broadcastInDim S8704x1 ![0] bcast_S8704_S8704x1_0 (Host.reduceAdd s (constant S_ .f32 0x00000000#32 : FVec Ideal S_ .f32) reducesTo_S8704x2048_S8704_d1 h_S_))
    (broadcastInDim S8704x1 ![] bcast_S_S8704x1 (constant S_ .f32 0x45000000#32 : FVec Ideal S_ .f32))

/-- The rows less their means. -/
def centred (s : FVec Ideal S8704x2048 .f32) : FVec Ideal S8704x2048 .f32 :=
  subf s (broadcastInDim S8704x2048 ![0, 1] bcast_S8704x1_S8704x2048_0_1 (means s))

/-- A vector laid along every row. -/
def along (γ : FVec Ideal S1x2048 .f32) : FVec Ideal S8704x2048 .f32 :=
  broadcastInDim S8704x2048 ![0, 1] bcast_S1x2048_S8704x2048_0_1 (broadcastInDim S1x2048 ![1] bcast_S2048_S1x2048_1 (shapeCast _ γ shapeCasts_S1x2048_S2048))

/-- The rows normalised. -/
def normals (s : FVec Ideal S8704x2048 .f32) (γ β : FVec Ideal S1x2048 .f32) : FVec Ideal S8704x2048 .f32 :=
  addf (mulf (mulf (centred s) (broadcastInDim S8704x2048 ![0, 1] bcast_S8704x1_S8704x2048_0_1
      (Host.rsqrt (addf (means (mulf (centred s) (centred s))) (broadcastInDim S8704x1 ![] bcast_S_S8704x1 (constant S_ .f32 0x3727C5AC#32 : FVec Ideal S_ .f32))))))
    (along γ)) (along β)

theorem products_at (x : FVec Ideal S8704x2048 .f32) (w : FVec Ideal S1x2048x11264 .f32) (a : Fin 8704) (j : Fin 11264) :
    (products x w (ix2 a j) : EReal) = ∑ k : Fin 2048, x (ix2 a k) * w (ix3 0 k j) := by
  unfold products
  pointwise

theorem hiddens_at (p : FVec Ideal S8704x11264 .f32) (a : Fin 8704) (j : Fin 5632) :
    (hiddens p (ix2 a j) : EReal) = p (ix2 a ⟨j.val, by omega⟩) * Ideal.logistic (p (ix2 a ⟨j.val, by omega⟩)) * p (ix2 a ⟨5632 + j.val, by omega⟩) := by
  rw [← logistic_eq]
  unfold hiddens gates
  pointwise

theorem addeds_at (x : FVec Ideal S8704x2048 .f32) (w : FVec Ideal S1x2048x11264 .f32) (d : FVec Ideal S1x5632x2048 .f32) (a : Fin 8704) (q : Fin 2048) :
    (addeds x (hiddens (products x w)) d (ix2 a q) : EReal) = added w d (fun k => x (ix2 a k)) q := by
  unfold addeds added
  pointwise
  refine congrArg _ (congrArg _ (Finset.sum_congr rfl fun j _ => ?_))
  unfold term hidden
  rw [dif_pos j.isLt, hiddens_at, products_at, products_at]

theorem means_at (s : FVec Ideal S8704x2048 .f32) (a : Fin 8704) : (means s (ix2 a 0) : EReal) = mean fun q => s (ix2 a q) := by
  unfold means mean
  pointwise

theorem centred_at (s : FVec Ideal S8704x2048 .f32) (a : Fin 8704) (q : Fin 2048) : (centred s (ix2 a q) : EReal) = s (ix2 a q) - mean fun q => s (ix2 a q) := by
  unfold centred
  pointwise
  rw [means_at]

theorem along_at (γ : FVec Ideal S1x2048 .f32) (a : Fin 8704) (q : Fin 2048) : (along γ (ix2 a q) : EReal) = γ (ix2 0 q) := by
  unfold along
  pointwise

theorem normals_at (s : FVec Ideal S8704x2048 .f32) (γ β : FVec Ideal S1x2048 .f32) (a : Fin 8704) (q : Fin 2048) :
    (normals s γ β (ix2 a q) : EReal) = norm (fun q => s (ix2 a q)) (fun q => γ (ix2 0 q)) (fun q => β (ix2 0 q)) q := by
  unfold normals norm
  pointwise
  simp only [means_at, centred_at, along_at, mulf_apply, Ideal.mulf_def]

/-- The whole result. -/
theorem whole_at (x : FVec Ideal S8704x2048 .f32) (w : FVec Ideal S1x2048x11264 .f32) (d : FVec Ideal S1x5632x2048 .f32) (γ β : FVec Ideal S1x2048 .f32) (a : Fin 8704) (q : Fin 2048) :
    (normals (addeds x (hiddens (products x w)) d) γ β (ix2 a q) : EReal) = out x w d γ β a q := by
  rw [normals_at]
  unfold out
  simp only [addeds_at]

variable (m : (ℓ : Loc nD τ sig) → Buf (Elt Ideal) ℓ) (c : Dev nD)

theorem res_most : Value.res_main_v39 (F := Ideal) m c = outMost (m ((c : Thread nD τ).loc main_arg0)) (m ((c : Thread nD τ).loc main_arg1)) (m ((c : Thread nD τ).loc main_arg2))
        (m ((c : Thread nD τ).loc main_arg3)) (m ((c : Thread nD τ).loc main_arg4)) := by
  show extractStridedSlice S8192x2048 ![0, 0] (normals (addeds (m ((c : Thread nD τ).loc main_arg0)) (hiddens (products (m ((c : Thread nD τ).loc main_arg0)) (m ((c : Thread nD τ).loc main_arg1)))) (m ((c : Thread nD τ).loc main_arg2)))
    (m ((c : Thread nD τ).loc main_arg3)) (m ((c : Thread nD τ).loc main_arg4))) slices_S8704x2048_S8192x2048_0_0 = _
  funext i
  refine Eq.trans ?_ (whole_at _ _ _ _ _ _ _)
  pointwise

theorem res_rest : Value.res_main_v40 (F := Ideal) m c = outRest (m ((c : Thread nD τ).loc main_arg0)) (m ((c : Thread nD τ).loc main_arg1)) (m ((c : Thread nD τ).loc main_arg2))
        (m ((c : Thread nD τ).loc main_arg3)) (m ((c : Thread nD τ).loc main_arg4)) := by
  show extractStridedSlice S512x2048 ![8192, 0] (normals (addeds (m ((c : Thread nD τ).loc main_arg0)) (hiddens (products (m ((c : Thread nD τ).loc main_arg0)) (m ((c : Thread nD τ).loc main_arg1)))) (m ((c : Thread nD τ).loc main_arg2)))
    (m ((c : Thread nD τ).loc main_arg3)) (m ((c : Thread nD τ).loc main_arg4))) slices_S8704x2048_S512x2048_8192_0 = _
  funext i
  refine Eq.trans ?_ (whole_at _ _ _ _ _ _ _)
  pointwise

/-- The reference's run, read. -/
theorem ref_run (ρ : Dev nD → PrngReg) :
    θ_run defs (onTc (τ := τ) (main (F := Ideal))) ⟨m, fun _ => 0, ρ⟩ fun r => ∀ c : Dev nD,
      r.2.mem ((c : Thread nD τ).loc main_v39)
        = outMost (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v40)
        = outRest (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (res_most m c), (h c).2.1.trans (res_rest m c), (h c).2.2⟩) (Value.run (F := Ideal) m ρ)

/-- The reference's frame: it names no semaphore. -/
theorem frame_ref : Cert.quiescent_FfnOutRefIdeal := fun m ρ _ =>
  (θ_run defs _ _).mono (fun r h => ⟨fun c => (h c).2.2, sem_eq_zero_of_no_sems (by decide) r.2⟩) (ref_run m ρ)

end Cert.Ffn

end

end
-- ==== Proof.Merge.Spec.lean ====
/- What the merge computes: the two mixers' outputs, each gated and multiplied by its weight, added, multiplied by
   the output weight, added to the rows in the proportion of the block, and normalised row by row. -/
module

public import proofs.«01_k».proof.Proof.Gen.MergeIdeal
public import proofs.«01_k».proof.Proof.FfnOut.Spec

@[expose] public section

set_option maxRecDepth 16384

noncomputable section

namespace Cert.Merging

open Cert.MergeIdeal Idealize.ShloMosaic
open Cert.Ffn (norm)

/-- Entry `(a, k)` of a mixer's output: the frames' rows first, the samples' after them; past the last sample's row
    the samples' rows once more. -/
def picked {n : ℕ} (f : FVec Ideal ⟨3, ![4, 2048, n]⟩ .bf16) (s : FVec Ideal ⟨3, ![16, 16, n]⟩ .bf16) (a : Fin 8704) (k : Fin n) : EReal :=
  if h : a.val < 8192 then f (ix3 ⟨a.val / 2048, by omega⟩ ⟨a.val % 2048, by omega⟩ k)
  else s (ix3 ⟨(a.val - 8192) % 256 / 16, by omega⟩ ⟨(a.val - 8192) % 256 % 16, by omega⟩ k)

/-- A row's product with a column, gated. -/
def gated {n : ℕ} (g : EReal) (y w : Fin n → EReal) : EReal := Ideal.logistic g * ∑ k, y k * w k

/-- The gates' arguments. -/
def gate (p : FVec Ideal S8704x13312 .f32) (b : FVec Ideal S1x4096 .f32) (a : Fin 8704) (j : Fin 4096) : EReal :=
  p (ix2 a ⟨4096 + j.val, by omega⟩) + b (ix2 0 j)

/-- The two mixers' outputs merged, at column `q`. -/
def merged (ga gb : Fin 2048 → EReal) (y : Fin 1024 → EReal) (z : Fin 2048 → EReal) (u : FVec Ideal S1x1024x2048 .f32) (v : FVec Ideal S1x2048x2048 .f32)
    (q : Fin 2048) : EReal :=
  gated (ga q) y (fun k => u (ix3 0 k q)) + gated (gb q) z (fun k => v (ix3 0 k q))

/-- A row with the merged row's product with the output weight added. -/
def added (w : FVec Ideal S1x2048x2048 .f32) (x s : Fin 2048 → EReal) (q : Fin 2048) : EReal :=
  Ideal.ofBits .f32 0x3F9837F0#32 * x q + ∑ k, s k * w (ix3 0 k q)

/-- Entry `(a, q)` of the result, from the rows of the mixers' outputs. -/
def outAt (x : FVec Ideal S8704x2048 .f32) (p : FVec Ideal S8704x13312 .f32) (b : FVec Ideal S1x4096 .f32) (u : FVec Ideal S1x1024x2048 .f32)
    (v w : FVec Ideal S1x2048x2048 .f32) (γ β : FVec Ideal S1x2048 .f32) (y : Fin 1024 → EReal) (z : Fin 2048 → EReal) (a : Fin 8704) (q : Fin 2048) : EReal :=
  norm (added w (fun k => x (ix2 a k)) (merged (fun q => gate p b a ⟨q.val, by omega⟩) (fun q => gate p b a ⟨2048 + q.val, by omega⟩) y z u v))
    (fun q => γ (ix2 0 q)) (fun q => β (ix2 0 q)) q

/-- The result. -/
def out (x : FVec Ideal S8704x2048 .f32) (fr : FVec Ideal S4x2048x1024 .bf16) (sr : FVec Ideal S16x16x1024 .bf16) (fs : FVec Ideal S4x2048x2048 .bf16)
    (ss : FVec Ideal S16x16x2048 .bf16) (p : FVec Ideal S8704x13312 .f32) (b : FVec Ideal S1x4096 .f32) (u : FVec Ideal S1x1024x2048 .f32)
    (v w : FVec Ideal S1x2048x2048 .f32) (γ β : FVec Ideal S1x2048 .f32) : FVec Ideal S8704x2048 .f32 :=
  fun i => outAt x p b u v w γ β (picked fr sr (i 0)) (picked fs ss (i 0)) (i 0) (i 1)

end Cert.Merging

end

end
-- ==== Proof.Merge.Kernel.lean ====
/- The merge kernel's result: each block of rows merged from the blocks of the mixers' outputs, the gates' columns and
   the weights. -/
module

public import proofs.«01_k».proof.Proof.Gen.MergeIdeal.Value
public import proofs.«01_k».proof.Proof.Merge.Spec

@[expose] public section

set_option maxRecDepth 16384

noncomputable section

namespace Cert.Merging

open Cert.MergeIdeal Cert.MergeIdeal.Gen Idealize.ShloMosaic Idealize.ShloMosaic.TcCoe Idealize.SL.Sem
open Idealize.ShloMosaic.Pipeline (Dat)
open Cert.Ffn (mean)

variable (m : (ℓ : Loc nD τ sig) → Buf (Elt Ideal) ℓ) (c : Dev nD)

/-! ## The body's arithmetic, entry by entry -/

theorem pay2_at (i : grid0.Coords) (yf ys : Vec Ideal S256x1024 .bf16) (zf zs : Vec Ideal S256x2048 .bf16) (pa : Vec Ideal S256x2048 .f32) (ba : Vec Ideal S1x2048 .f32)
    (u : Vec Ideal S1024x2048 .bf16) (pb : Vec Ideal S256x2048 .f32) (bb : Vec Ideal S1x2048 .f32) (v : Vec Ideal S2048x2048 .bf16) (r : Fin 256) (q : Fin 2048) :
    (k0_pay2 (F := Ideal) i yf ys zf zs pa ba u pb bb v (ix2 r q) : EReal)
      = gated (pa (ix2 r q) + ba (ix2 0 q)) (fun k => (Scalar.select (Scalar.cmpi .slt (BitVec.ofNat 32 (i 0).val) 32#32) yf ys : Vec Ideal S256x1024 .bf16) (ix2 r k)) (fun k => u (ix2 k q))
        + gated (pb (ix2 r q) + bb (ix2 0 q)) (fun k => (Scalar.select (Scalar.cmpi .slt (BitVec.ofNat 32 (i 0).val) 32#32) zf zs : Vec Ideal S256x2048 .bf16) (ix2 r k)) (fun k => v (ix2 k q)) := by
  unfold k0_pay2 gated
  rcases (by decide : ∀ b : BitVec 1, b = 0#1 ∨ b = 1#1) (Scalar.cmpi .slt (BitVec.ofNat 32 (i 0).val) 32#32) with hc | hc <;>
    simp only [hc, Scalar.select] <;> pointwise

theorem pay1_at (s x : Vec Ideal S256x2048 .f32) (w : Vec Ideal S2048x2048 .bf16) (γ β : Vec Ideal S1x2048 .f32) (r : Fin 256) (q : Fin 2048) :
    (k0_pay1 (F := Ideal) s x (Scalar.ofBits .f32 0x3F9837F0#32) w γ β (ix2 r q) : EReal)
      = Ffn.norm (fun q => Ideal.ofBits .f32 0x3F9837F0#32 * x (ix2 r q) + ∑ k : Fin 2048, s (ix2 r k) * w (ix2 k q)) (fun q => γ (ix2 0 q)) (fun q => β (ix2 0 q)) q := by
  unfold k0_pay1 Ffn.norm mean
  pointwise

/-! ## The blocks it reads -/

/-- The block that each window is at, point by point. -/
theorem idx : ∀ t : Fin grid0.N, (win0_0.index t = ![t.val, 0] ∧ win0_1.index t = ![min t.val 31, 0] ∧ win0_2.index t = ![0, 0] ∧ win0_3.index t = ![min t.val 31, 0]
    ∧ win0_4.index t = ![0, 0] ∧ win0_5.index t = ![t.val, 2] ∧ win0_6.index t = ![t.val, 3])
    ∧ (win0_7.index t = ![0, 0] ∧ win0_8.index t = ![0, 1] ∧ win0_9.index t = ![0, 0] ∧ win0_10.index t = ![0, 0] ∧ win0_11.index t = ![0, 0]
    ∧ win0_12.index t = ![0, 0] ∧ win0_13.index t = ![0, 0] ∧ win0_14.index t = ![t.val, 0]) ∧ (grid0.coords t 0).val = t.val := by
  decide +kernel

theorem x_block (t : Fin cfg0.N) (r : Fin 256) (k : Fin 2048) (a : Fin 8704) (h : a.val = t.val * 256 + r.val) :
    (iblk m c 0 t (ix2 r k) : EReal) = m ((c : Thread nD τ).loc main_arg0) (ix2 a k) := by
  blk_ext [iblk, (idx t).1.1, h]

theorem yf_block (t : Fin cfg0.N) (ht : t.val < 32) (r : Fin 256) (k : Fin 1024) (a : Fin 8192) (h : a.val = t.val * 256 + r.val) :
    (iblk m c 1 t (ix2 r k) : EReal) = V m c main_v0 (ix2 a k) := by
  have e : min t.val 31 = t.val := by omega
  blk_ext [iblk, (idx t).1.2.1, h, e]

theorem ys_block (t : Fin cfg0.N) (r : Fin 256) (k : Fin 1024) : (iblk m c 2 t (ix2 r k) : EReal) = V m c main_v1 (ix2 r k) := by
  blk_ext [iblk, (idx t).1.2.2.1]

theorem zf_block (t : Fin cfg0.N) (ht : t.val < 32) (r : Fin 256) (k : Fin 2048) (a : Fin 8192) (h : a.val = t.val * 256 + r.val) :
    (iblk m c 3 t (ix2 r k) : EReal) = V m c main_v2 (ix2 a k) := by
  have e : min t.val 31 = t.val := by omega
  blk_ext [iblk, (idx t).1.2.2.2.1, h, e]

theorem zs_block (t : Fin cfg0.N) (r : Fin 256) (k : Fin 2048) : (iblk m c 4 t (ix2 r k) : EReal) = V m c main_v3 (ix2 r k) := by
  blk_ext [iblk, (idx t).1.2.2.2.2.1]

theorem pa_block (t : Fin cfg0.N) (r : Fin 256) (q : Fin 2048) (a : Fin 8704) (h : a.val = t.val * 256 + r.val) :
    (X0_5 m c t (ix2 r q) : EReal) = m ((c : Thread nD τ).loc main_arg5) (ix2 a ⟨4096 + q.val, by omega⟩) := by
  unfold X0_5 Pipeline.Window.fill
  rw [dif_pos (moved0_5 t _)]
  blk_ext [iblk, (idx t).1.2.2.2.2.2.1, h]

theorem pb_block (t : Fin cfg0.N) (r : Fin 256) (q : Fin 2048) (a : Fin 8704) (h : a.val = t.val * 256 + r.val) :
    (X0_6 m c t (ix2 r q) : EReal) = m ((c : Thread nD τ).loc main_arg5) (ix2 a ⟨6144 + q.val, by omega⟩) := by
  unfold X0_6 Pipeline.Window.fill
  rw [dif_pos (moved0_6 t _)]
  blk_ext [iblk, (idx t).1.2.2.2.2.2.2, h]

theorem ba_block (t : Fin cfg0.N) (q : Fin 2048) : (iblk m c 7 t (ix2 0 q) : EReal) = V m c main_v5 (ix2 0 ⟨q.val, by omega⟩) := by
  blk_ext [iblk, (idx t).2.1.1]

theorem bb_block (t : Fin cfg0.N) (q : Fin 2048) : (iblk m c 8 t (ix2 0 q) : EReal) = V m c main_v5 (ix2 0 ⟨2048 + q.val, by omega⟩) := by
  blk_ext [iblk, (idx t).2.1.2.1]

theorem u_block (t : Fin cfg0.N) (k : Fin 1024) (q : Fin 2048) : (iblk m c 9 t (ix2 k q) : EReal) = V m c main_v7 (ix2 k q) := by
  blk_ext [iblk, (idx t).2.1.2.2.1]

theorem v_block (t : Fin cfg0.N) (k : Fin 2048) (q : Fin 2048) : (iblk m c 10 t (ix2 k q) : EReal) = V m c main_v9 (ix2 k q) := by
  blk_ext [iblk, (idx t).2.1.2.2.2.1]

theorem w_block (t : Fin cfg0.N) (k : Fin 2048) (q : Fin 2048) : (iblk m c 11 t (ix2 k q) : EReal) = V m c main_v11 (ix2 k q) := by
  blk_ext [iblk, (idx t).2.1.2.2.2.2.1]

theorem γ_block (t : Fin cfg0.N) (q : Fin 2048) : (iblk m c 12 t (ix2 0 q) : EReal) = V m c main_v13 (ix2 0 q) := by
  blk_ext [iblk, (idx t).2.1.2.2.2.2.2.1]

theorem β_block (t : Fin cfg0.N) (q : Fin 2048) : (iblk m c 13 t (ix2 0 q) : EReal) = V m c main_v15 (ix2 0 q) := by
  blk_ext [iblk, (idx t).2.1.2.2.2.2.2.2.1]

/-! ## What the host operations lay out -/

theorem yf_entry (a : Fin 8192) (k : Fin 1024) : (V m c main_v0 (ix2 a k) : EReal) = m ((c : Thread nD τ).loc main_arg1) (ix3 ⟨a.val / 2048, by omega⟩ ⟨a.val % 2048, by omega⟩ k) := by
  entry_read
  pointwise

theorem ys_entry (r : Fin 256) (k : Fin 1024) : (V m c main_v1 (ix2 r k) : EReal) = m ((c : Thread nD τ).loc main_arg2) (ix3 ⟨r.val / 16, by omega⟩ ⟨r.val % 16, by omega⟩ k) := by
  entry_read
  pointwise

theorem zf_entry (a : Fin 8192) (k : Fin 2048) : (V m c main_v2 (ix2 a k) : EReal) = m ((c : Thread nD τ).loc main_arg3) (ix3 ⟨a.val / 2048, by omega⟩ ⟨a.val % 2048, by omega⟩ k) := by
  entry_read
  pointwise

theorem zs_entry (r : Fin 256) (k : Fin 2048) : (V m c main_v3 (ix2 r k) : EReal) = m ((c : Thread nD τ).loc main_arg4) (ix3 ⟨r.val / 16, by omega⟩ ⟨r.val % 16, by omega⟩ k) := by
  entry_read
  pointwise

theorem b_entry (j : Fin 4096) : (V m c main_v5 (ix2 0 j) : EReal) = m ((c : Thread nD τ).loc main_arg6) (ix2 0 j) := by
  entry_read
  pointwise

theorem u_entry (k : Fin 1024) (q : Fin 2048) : (V m c main_v7 (ix2 k q) : EReal) = m ((c : Thread nD τ).loc main_arg7) (ix3 0 k q) := by
  entry_read
  pointwise

theorem v_entry (k : Fin 2048) (q : Fin 2048) : (V m c main_v9 (ix2 k q) : EReal) = m ((c : Thread nD τ).loc main_arg8) (ix3 0 k q) := by
  entry_read
  pointwise

theorem w_entry (k : Fin 2048) (q : Fin 2048) : (V m c main_v11 (ix2 k q) : EReal) = m ((c : Thread nD τ).loc main_arg9) (ix3 0 k q) := by
  entry_read
  pointwise

theorem γ_entry (q : Fin 2048) : (V m c main_v13 (ix2 0 q) : EReal) = m ((c : Thread nD τ).loc main_arg10) (ix2 0 q) := by
  entry_read
  pointwise

theorem β_entry (q : Fin 2048) : (V m c main_v15 (ix2 0 q) : EReal) = m ((c : Thread nD τ).loc main_arg11) (ix2 0 q) := by
  entry_read
  pointwise

/-! ## The rows it merges -/

/-- The grid's points of frames and of samples, told apart as the body tells them. -/
theorem frames_at : ∀ t : Fin grid0.N, Scalar.cmpi .slt (BitVec.ofNat 32 (grid0.coords t 0).val) 32#32 = if t.val < 32 then 1#1 else 0#1 := by
  decide +kernel

theorem y_row (t : Fin cfg0.N) (r : Fin 256) (a : Fin 8704) (h : a.val = t.val * 256 + r.val) (k : Fin 1024) :
    ((Scalar.select (Scalar.cmpi .slt (BitVec.ofNat 32 (grid0.coords t 0).val) 32#32) (iblk m c 1 t) (iblk m c 2 t) : Vec Ideal S256x1024 .bf16) (ix2 r k) : EReal)
      = picked (m ((c : Thread nD τ).loc main_arg1)) (m ((c : Thread nD τ).loc main_arg2)) a k := by
  rw [frames_at t]
  unfold picked
  by_cases ht : t.val < 32
  · rw [if_pos ht, dif_pos (by omega)]
    exact (yf_block m c t ht r k ⟨a.val, by omega⟩ h).trans (yf_entry m c _ k)
  · have ha := a.isLt
    have hr : (a.val - 8192) % 256 = r.val := by omega
    rw [if_neg ht, dif_neg (by omega)]
    simp only [hr]
    exact (ys_block m c t r k).trans (ys_entry m c r k)

theorem z_row (t : Fin cfg0.N) (r : Fin 256) (a : Fin 8704) (h : a.val = t.val * 256 + r.val) (k : Fin 2048) :
    ((Scalar.select (Scalar.cmpi .slt (BitVec.ofNat 32 (grid0.coords t 0).val) 32#32) (iblk m c 3 t) (iblk m c 4 t) : Vec Ideal S256x2048 .bf16) (ix2 r k) : EReal)
      = picked (m ((c : Thread nD τ).loc main_arg3)) (m ((c : Thread nD τ).loc main_arg4)) a k := by
  rw [frames_at t]
  unfold picked
  by_cases ht : t.val < 32
  · rw [if_pos ht, dif_pos (by omega)]
    exact (zf_block m c t ht r k ⟨a.val, by omega⟩ h).trans (zf_entry m c _ k)
  · have ha := a.isLt
    have hr : (a.val - 8192) % 256 = r.val := by omega
    rw [if_neg ht, dif_neg (by omega)]
    simp only [hr]
    exact (zs_block m c t r k).trans (zs_entry m c r k)

/-- A gate's argument, from its column's entry and its bias. -/
theorem gate_at (P : Vec Ideal S256x2048 .f32) (B : Vec Ideal S1x2048 .f32) (p : FVec Ideal S8704x13312 .f32) (b : FVec Ideal S1x4096 .f32) (r : Fin 256) (q : Fin 2048)
    (a : Fin 8704) (j : Fin 4096) (n : Fin 13312) (hn : n.val = 4096 + j.val) (hP : (P (ix2 r q) : EReal) = p (ix2 a n)) (hB : (B (ix2 0 q) : EReal) = b (ix2 0 j)) :
    (P (ix2 r q) + B (ix2 0 q) : EReal) = gate p b a j :=
  congrArg₂ (fun x y : EReal => x + y) (hP.trans (congrArg (fun n => p (ix2 a n)) (Fin.ext hn))) hB

theorem gated_congr {n : ℕ} {g g' : EReal} {y y' w w' : Fin n → EReal} (hg : g = g') (hy : ∀ k, y k = y' k) (hw : ∀ k, w k = w' k) : gated g y w = gated g' y' w' := by
  rw [hg, funext hy, funext hw]

theorem norm_congr {s s' γ γ' β β' : Fin 2048 → EReal} (hs : ∀ q, s q = s' q) (hγ : ∀ q, γ q = γ' q) (hβ : ∀ q, β q = β' q) (q : Fin 2048) :
    Ffn.norm s γ β q = Ffn.norm s' γ' β' q := by
  rw [funext hs, funext hγ, funext hβ]

/-- The merged block of rows at a point. -/
abbrev mergedBlk (t : Fin cfg0.N) : FVec Ideal S256x2048 .f32 :=
  k0_pay2 (F := Ideal) (grid0.coords t) (iblk m c 1 t) (iblk m c 2 t) (iblk m c 3 t) (iblk m c 4 t) (X0_5 m c t) (iblk m c 7 t) (iblk m c 9 t) (X0_6 m c t) (iblk m c 8 t) (iblk m c 10 t)

theorem merged_at (t : Fin cfg0.N) (r : Fin 256) (a : Fin 8704) (h : a.val = t.val * 256 + r.val) (q : Fin 2048) :
    (mergedBlk m c t (ix2 r q) : EReal)
      = merged (fun q => gate (m ((c : Thread nD τ).loc main_arg5)) (m ((c : Thread nD τ).loc main_arg6)) a ⟨q.val, by omega⟩)
          (fun q => gate (m ((c : Thread nD τ).loc main_arg5)) (m ((c : Thread nD τ).loc main_arg6)) a ⟨2048 + q.val, by omega⟩)
          (picked (m ((c : Thread nD τ).loc main_arg1)) (m ((c : Thread nD τ).loc main_arg2)) a)
          (picked (m ((c : Thread nD τ).loc main_arg3)) (m ((c : Thread nD τ).loc main_arg4)) a)
          (m ((c : Thread nD τ).loc main_arg7)) (m ((c : Thread nD τ).loc main_arg8)) q := by
  refine (pay2_at _ _ _ _ _ _ _ _ _ _ _ r q).trans ?_
  unfold merged
  exact congrArg₂ (· + ·) (gated_congr (gate_at _ _ _ _ r q a _ _ rfl (pa_block m c t r q a h) ((ba_block m c t q).trans (b_entry m c _))) (y_row m c t r a h) fun k => (u_block m c t k q).trans (u_entry m c k q))
    (gated_congr (gate_at _ _ _ _ r q a _ _ (by show 6144 + q.val = 4096 + (2048 + q.val); omega) (pb_block m c t r q a h) ((bb_block m c t q).trans (b_entry m c _))) (z_row m c t r a h) fun k => (v_block m c t k q).trans (v_entry m c k q))

/-- The result's block at a point. -/
theorem block_at (t : Fin cfg0.N) (r : Fin 256) (a : Fin 8704) (h : a.val = t.val * 256 + r.val) (q : Fin 2048) :
    (k0_pay1 (F := Ideal) (mergedBlk m c t) (iblk m c 0 t) (Scalar.ofBits .f32 0x3F9837F0#32) (iblk m c 11 t) (iblk m c 12 t) (iblk m c 13 t) (ix2 r q) : EReal)
      = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (ix2 a q) := by
  refine (pay1_at _ _ _ _ _ r q).trans ?_
  unfold out outAt
  refine norm_congr (fun q => ?_) (fun q => (γ_block m c t q).trans (γ_entry m c q)) (fun q => (β_block m c t q).trans (β_entry m c q)) q
  unfold added
  refine congrArg₂ (· + ·) (congrArg _ (x_block m c t r q a h)) (Finset.sum_congr rfl fun k _ => ?_)
  exact congrArg₂ (· * ·) (merged_at m c t r a h k) ((w_block m c t k q).trans (w_entry m c k q))

/-! ## The array after the run -/

theorem final : (dats m 0 c).arrAt 14 cfg0.N
    = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
  refine (dats m 0 c).arrAt_eq_of_covers 14 _ (by decide +kernel) fun t hf y => ?_
  have e0 := Pipeline.Window.rect_emb_val win0_14 t y 0
  have e1 := Pipeline.Window.rect_emb_val win0_14 t y 1
  rw [(idx t).2.1.2.2.2.2.2.2.2] at e0 e1
  change _ = t.val * 256 + (y 0).val at e0
  change _ = 0 * 2048 + (y 1).val at e1
  rw [after0_14]
  unfold outsAt0
  frame_out
  refine (congrArg (k0_pay1 (F := Ideal) (mergedBlk m c t) (iblk m c 0 t) (Scalar.ofBits .f32 0x3F9837F0#32) (iblk m c 11 t) (iblk m c 12 t) (iblk m c 13 t)) (eq_ix2 y)).trans
    ((block_at m c t (y 0) (((cfg0.win 14).rect t).emb y 0) e0 (y 1)).trans ?_)
  refine congrArg _ (Eq.trans ?_ (eq_ix2 (((cfg0.win 14).rect t).emb y)).symm)
  exact congrArg (ix2 _) (Fin.ext (e1.trans (by omega)).symm)

/-- The run, read: the result at the merged rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v16)
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.Merging

end

end
-- ==== Proof.Merge.Reference.lean ====
/- The merge's reference: its whole-array operations read entry by entry. -/
module

public import proofs.«01_k».proof.Proof.Gen.MergeRefIdeal.Run
public import proofs.«01_k».proof.Defs
public import proofs.«01_k».proof.Proof.Merge.Spec
public import proofs.«01_k».proof.Proof.FfnOut.Reference

@[expose] public section

set_option maxRecDepth 16384

noncomputable section

namespace Cert.Merging

open Cert.MergeRefIdeal Cert.MergeRefIdeal.Gen Idealize.ShloMosaic Idealize.ShloMosaic.TcCoe Idealize.SL.Sem
open Cert.Ffn (normals normals_at logistic_eq)

/-- The first mixer's rows: the frames', the samples', zeros. -/
def rowsY (f : FVec Ideal S4x2048x1024 .bf16) (s : FVec Ideal S16x16x1024 .bf16) : FVec Ideal S8704x1024 .f32 :=
  extf .f32 (concatenate S8704x1024 0 [⟨S8192x1024, shapeCast S8192x1024 f shapeCasts_S4x2048x1024_S8192x1024⟩,
    ⟨S256x1024, shapeCast S256x1024 s shapeCasts_S16x16x1024_S256x1024⟩,
    ⟨S256x1024, broadcastInDim S256x1024 ![] bcast_S_S256x1024 (constant S_ .bf16 0x0000#16 : FVec Ideal S_ .bf16)⟩]
    concatenates_S8192x1024_S256x1024_S256x1024_S8704x1024_d0 : FVec Ideal S8704x1024 .bf16) bitsLt_bf16_f32

/-- The second mixer's rows. -/
def rowsZ (f : FVec Ideal S4x2048x2048 .bf16) (s : FVec Ideal S16x16x2048 .bf16) : FVec Ideal S8704x2048 .f32 :=
  extf .f32 (concatenate S8704x2048 0 [⟨S8192x2048, shapeCast S8192x2048 f shapeCasts_S4x2048x2048_S8192x2048⟩,
    ⟨S256x2048, shapeCast S256x2048 s shapeCasts_S16x16x2048_S256x2048⟩,
    ⟨S256x2048, broadcastInDim S256x2048 ![] bcast_S_S256x2048 (constant S_ .bf16 0x0000#16 : FVec Ideal S_ .bf16)⟩]
    concatenates_S8192x2048_S256x2048_S256x2048_S8704x2048_d0 : FVec Ideal S8704x2048 .bf16) bitsLt_bf16_f32

/-- The gates. -/
def gates (p : FVec Ideal S8704x13312 .f32) (b : FVec Ideal S1x4096 .f32) : FVec Ideal S8704x4096 .f32 :=
  Host.divf (broadcastInDim S8704x4096 ![] bcast_S_S8704x4096 (constant S_ .f32 0x3F800000#32 : FVec Ideal S_ .f32))
    (addf (broadcastInDim S8704x4096 ![] bcast_S_S8704x4096 (constant S_ .f32 0x3F800000#32 : FVec Ideal S_ .f32))
      (Host.exp (Host.negf (addf (extractStridedSlice S8704x4096 ![0, 4096] p slices_S8704x13312_S8704x4096_0_4096)
        (broadcastInDim S8704x4096 ![0, 1] bcast_S1x4096_S8704x4096_0_1 (broadcastInDim S1x4096 ![1] bcast_S4096_S1x4096_1 (shapeCast S4096 b shapeCasts_S1x4096_S4096)))))))

/-- The merged rows. -/
def mergeds (g : FVec Ideal S8704x4096 .f32) (y : FVec Ideal S8704x1024 .f32) (z : FVec Ideal S8704x2048 .f32) (u : FVec Ideal S1x1024x2048 .f32)
    (v : FVec Ideal S1x2048x2048 .f32) : FVec Ideal S8704x2048 .f32 :=
  addf (mulf (extractStridedSlice S8704x2048 ![0, 0] g slices_S8704x4096_S8704x2048_0_0)
      (Host.dotGeneral dot_S8704x1024_S1024x2048_S8704x2048_1_0_0_1_n_n none y (shapeCast S1024x2048 u shapeCasts_S1x1024x2048_S1024x2048)))
    (mulf (extractStridedSlice S8704x2048 ![0, 2048] g slices_S8704x4096_S8704x2048_0_2048)
      (Host.dotGeneral dot_S8704x2048_S2048x2048_S8704x2048_1_0_0_1_n_n none z (shapeCast S2048x2048 v shapeCasts_S1x2048x2048_S2048x2048)))

/-- The rows with the merged rows' product with the output weight added. -/
def addeds (x s : FVec Ideal S8704x2048 .f32) (w : FVec Ideal S1x2048x2048 .f32) : FVec Ideal S8704x2048 .f32 :=
  addf (mulf (broadcastInDim S8704x2048 ![] bcast_S_S8704x2048 (constant S_ .f32 0x3F9837F0#32 : FVec Ideal S_ .f32)) x)
    (Host.dotGeneral dot_S8704x2048_S2048x2048_S8704x2048_1_0_0_1_n_n none s (shapeCast S2048x2048 w shapeCasts_S1x2048x2048_S2048x2048))

theorem rowsY_at (f : FVec Ideal S4x2048x1024 .bf16) (s : FVec Ideal S16x16x1024 .bf16) (a : Fin 8704) (ha : a.val < 8448) (k : Fin 1024) :
    (rowsY f s (ix2 a k) : EReal) = picked f s a k := by
  unfold rowsY picked
  have e : ¬ a.val < 8192 → (a.val - 8192) % 256 = a.val - 8192 := fun _ => Nat.mod_eq_of_lt (by omega)
  split_ifs with h
  · pointwise
    exact dif_pos h
  · pointwise
    rw [dif_neg h, dif_pos (by omega)]
    simp only [e h]

theorem rowsZ_at (f : FVec Ideal S4x2048x2048 .bf16) (s : FVec Ideal S16x16x2048 .bf16) (a : Fin 8704) (ha : a.val < 8448) (k : Fin 2048) :
    (rowsZ f s (ix2 a k) : EReal) = picked f s a k := by
  unfold rowsZ picked
  have e : ¬ a.val < 8192 → (a.val - 8192) % 256 = a.val - 8192 := fun _ => Nat.mod_eq_of_lt (by omega)
  split_ifs with h
  · pointwise
    exact dif_pos h
  · pointwise
    rw [dif_neg h, dif_pos (by omega)]
    simp only [e h]

theorem gates_at (p : FVec Ideal S8704x13312 .f32) (b : FVec Ideal S1x4096 .f32) (a : Fin 8704) (j : Fin 4096) :
    (gates p b (ix2 a j) : EReal) = Ideal.logistic (gate p b a j) := by
  rw [← logistic_eq]
  unfold gates gate
  pointwise

theorem mergeds_at (p : FVec Ideal S8704x13312 .f32) (b : FVec Ideal S1x4096 .f32) (y : FVec Ideal S8704x1024 .f32) (z : FVec Ideal S8704x2048 .f32)
    (u : FVec Ideal S1x1024x2048 .f32) (v : FVec Ideal S1x2048x2048 .f32) (a : Fin 8704) (q : Fin 2048) :
    (mergeds (gates p b) y z u v (ix2 a q) : EReal)
      = merged (fun q => gate p b a ⟨q.val, by omega⟩) (fun q => gate p b a ⟨2048 + q.val, by omega⟩) (fun k => y (ix2 a k)) (fun k => z (ix2 a k)) u v q := by
  unfold mergeds merged gated
  pointwise
  rw [gates_at, gates_at]

theorem addeds_at (x s : FVec Ideal S8704x2048 .f32) (w : FVec Ideal S1x2048x2048 .f32) (a : Fin 8704) (q : Fin 2048) :
    (addeds x s w (ix2 a q) : EReal) = added w (fun k => x (ix2 a k)) (fun k => s (ix2 a k)) q := by
  unfold addeds added
  pointwise

/-- The whole result, on the rows of frames and samples. -/
theorem whole_at (x : FVec Ideal S8704x2048 .f32) (fr : FVec Ideal S4x2048x1024 .bf16) (sr : FVec Ideal S16x16x1024 .bf16) (fs : FVec Ideal S4x2048x2048 .bf16)
    (ss : FVec Ideal S16x16x2048 .bf16) (p : FVec Ideal S8704x13312 .f32) (b : FVec Ideal S1x4096 .f32) (u : FVec Ideal S1x1024x2048 .f32)
    (v w : FVec Ideal S1x2048x2048 .f32) (γ β : FVec Ideal S1x2048 .f32) (a : Fin 8704) (q : Fin 2048) (ha : a.val < 8448) :
    (normals (addeds x (mergeds (gates p b) (rowsY fr sr) (rowsZ fs ss) u v) w) γ β (ix2 a q) : EReal) = out x fr sr fs ss p b u v w γ β (ix2 a q) := by
  rw [normals_at]
  unfold out outAt
  simp only [addeds_at, mergeds_at, rowsY_at _ _ _ ha, rowsZ_at _ _ _ ha]
  rfl

variable (m : (ℓ : Loc nD τ sig) → Buf (Elt Ideal) ℓ) (c : Dev nD)

/-- The reference's result on the rows of frames and samples. -/
theorem res_at (i : S8704x2048.Idx) (hi : (i 0).val < 8448) : Value.res_main_v60 (F := Ideal) m c i
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i := by
  show normals (addeds (m ((c : Thread nD τ).loc main_arg0)) (mergeds (gates (m ((c : Thread nD τ).loc main_arg5)) (m ((c : Thread nD τ).loc main_arg6)))
    (rowsY (m ((c : Thread nD τ).loc main_arg1)) (m ((c : Thread nD τ).loc main_arg2))) (rowsZ (m ((c : Thread nD τ).loc main_arg3)) (m ((c : Thread nD τ).loc main_arg4))) (m ((c : Thread nD τ).loc main_arg7)) (m ((c : Thread nD τ).loc main_arg8))) (m ((c : Thread nD τ).loc main_arg9))) (m ((c : Thread nD τ).loc main_arg10)) (m ((c : Thread nD τ).loc main_arg11)) i = _
  rw [eq_ix2 i]
  exact whole_at _ _ _ _ _ _ _ _ _ _ _ _ _ _ hi

/-- The reference's run, read. -/
theorem ref_run (ρ : Dev nD → PrngReg) :
    θ_run defs (onTc (τ := τ) (main (F := Ideal))) ⟨m, fun _ => 0, ρ⟩ fun r => ∀ c : Dev nD,
      (∀ i : S8704x2048.Idx, (i 0).val < 8448 → r.2.mem ((c : Thread nD τ).loc main_v60) i
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨fun i hi => (congrFun (h c).1 i).trans (res_at m c i hi), (h c).2⟩) (Value.run (F := Ideal) m ρ)

/-- The reference's frame: it names no semaphore. -/
theorem frame_ref : Cert.quiescent_MergeRefIdeal := fun m ρ _ =>
  (θ_run defs _ _).mono (fun r h => ⟨fun c => (h c).2, sem_eq_zero_of_no_sems (by decide) r.2⟩) (ref_run m ρ)

end Cert.Merging

end

end
-- ==== Proof.Ssd.Spec.lean ====
/- The convolution state that the mixer hands on: the last three of a sample's sixteen rows of the convolution's columns. -/
module

public import proofs.«01_k».proof.Proof.Gen.SsdIdeal
public import proofs.«01_k».proof.Proof.FfnOut.Spec

@[expose] public section

noncomputable section

namespace Cert.SsdState

open Cert.SsdIdeal Idealize.ShloMosaic

/-- The last eight rows of sample `i 0`. -/
def tail (p : FVec Ideal S8704x13312 .f32) : FVec Ideal S16x8x3072 .f32 := fun i =>
  p (ix2 ⟨8192 + 16 * (i 0).val + 8 + (i 1).val, by have h0 : (i 0).val < 16 := (i 0).isLt; have h1 : (i 1).val < 8 := (i 1).isLt; omega⟩
    ⟨10240 + (i 2).val, by have h2 : (i 2).val < 3072 := (i 2).isLt; omega⟩)

/-- The state: the last three rows of sample `i 1`. -/
def out (p : FVec Ideal S8704x13312 .f32) : FVec Ideal S1x16x3x3072 .f32 := fun i =>
  p (ix2 ⟨8192 + 16 * (i 1).val + 13 + (i 2).val, by have h1 : (i 1).val < 16 := (i 1).isLt; have h2 : (i 2).val < 3 := (i 2).isLt; omega⟩
    ⟨10240 + (i 3).val, by have h3 : (i 3).val < 3072 := (i 3).isLt; omega⟩)

end Cert.SsdState

end
-- ==== Proof.Ssd.Kernel.lean ====
/- The convolution state of the samples' mixer: what the body leaves in the block of a sample is the last eight of its
   rows, and the host keeps the last three of them. -/
module

public import proofs.«01_k».proof.Proof.Gen.SsdIdeal.Frame
public import proofs.«01_k».proof.Proof.Ssd.Spec

@[expose] public section

set_option maxRecDepth 16384

noncomputable section

namespace Cert.SsdState

open Cert.SsdIdeal Cert.SsdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The blocks of rows and columns that a sample's point is at. -/
theorem idx : ∀ t : Fin grid0.N, win0_0.index t = ![512 + t.val, 5] ∧ win0_1.index t = ![512 + t.val, 12] ∧ win0_15.index t = ![t.val, 0, 0] := by
  decide +kernel

theorem xs_block (t : Fin cfg0.N) (r : Fin 16) (k : Fin 2048) (a : Fin 8704) (h : a.val = 8192 + 16 * t.val + r.val) :
    (X0_0 m c t (ix2 r k) : EReal) = m ((c : Thread nD τ).loc main_arg0) (ix2 a ⟨10240 + k.val, by omega⟩) := by
  unfold X0_0 Pipeline.Window.fill
  rw [dif_pos (moved0_0 t _)]
  have e : (512 + t.val) * 16 + r.val = a.val := by omega
  blk_ext [iblk, (idx t).1, e]

theorem bc_block (t : Fin cfg0.N) (r : Fin 16) (k : Fin 1024) (a : Fin 8704) (h : a.val = 8192 + 16 * t.val + r.val) :
    (iblk m c 1 t (ix2 r k) : EReal) = m ((c : Thread nD τ).loc main_arg0) (ix2 a ⟨12288 + k.val, by omega⟩) := by
  have e : (512 + t.val) * 16 + r.val = a.val := by omega
  blk_ext [iblk, (idx t).2.1, e]

/-! ## The body's rows -/

theorem pay9_at (v : Vec Ideal S1x8x3072 .f32) (j : Fin 8) (q : Fin 3072) : (k0_pay9 (F := Ideal) v (ix3 0 j q) : EReal) = v (ix3 0 j q) := by
  unfold k0_pay9 k0_pay7
  pointwise

theorem pay5_left (x : Vec Ideal S16x2048 .f32) (y : Vec Ideal S16x1024 .f32) (r : Fin 16) (q : Fin 3072) (hq : q.val < 2048) :
    (k0_pay5 (F := Ideal) x y (ix3 0 r q) : EReal) = x (ix2 r ⟨q.val, hq⟩) := by
  unfold k0_pay5 k0_pay4
  pointwise
  rw [dif_pos hq]

theorem pay5_right (x : Vec Ideal S16x2048 .f32) (y : Vec Ideal S16x1024 .f32) (r : Fin 16) (q : Fin 3072) (hq : 2048 ≤ q.val) :
    (k0_pay5 (F := Ideal) x y (ix3 0 r q) : EReal) = y (ix2 r ⟨q.val - 2048, by omega⟩) := by
  unfold k0_pay5 k0_pay4
  pointwise
  rw [dif_neg (by omega)]

/-- The sample's rows, both column blocks side by side. -/
theorem sample_at (t : Fin cfg0.N) (r : Fin 16) (q : Fin 3072) (a : Fin 8704) (h : a.val = 8192 + 16 * t.val + r.val) :
    (k0_pay5 (F := Ideal) (X0_0 m c t) (iblk m c 1 t) (ix3 0 r q) : EReal) = m ((c : Thread nD τ).loc main_arg0) (ix2 a ⟨10240 + q.val, by omega⟩) := by
  by_cases hq : q.val < 2048
  · exact (pay5_left _ _ r q hq).trans (xs_block m c t r ⟨q.val, hq⟩ a h)
  · refine (pay5_right _ _ r q (by omega)).trans ((bc_block m c t r ⟨q.val - 2048, by omega⟩ a h).trans ?_)
    exact congrArg (fun n => m ((c : Thread nD τ).loc main_arg0) (ix2 a n)) (Fin.ext (by show 12288 + (q.val - 2048) = 10240 + q.val; omega))

/-- Rows 16 to 23 of the padded rows are the sample's rows 8 to 15, whatever was written before them. -/
theorem read_at (v : View sig .tc .vmem S1x24x3072 .f32) (w : Vec Ideal S1x16x3072 .f32) (L : List (View.Piece (Elt Ideal) S1x24x3072 .f32)) (j : Fin 8) (q : Fin 3072) :
    (v.readCov (⟨Rect.unit (s := S1x24x3072) ![0, 8, 0] ![1, 16, 3072] inb_S1x24x3072_S1x16x3072_0_8_0, w⟩ :: L)
      (Rect.unit (s := S1x24x3072) ![0, 16, 0] ![1, 8, 3072] inb_S1x24x3072_S1x8x3072_0_16_0).toLoadRect (ix3 0 j q) : EReal) = w (ix3 0 ⟨8 + j.val, by omega⟩ q) := by
  rw [View.readCov_eq_canon']
  refine Eq.trans (congrArg _ (?_ : _ = (Rect.unit (s := S1x24x3072) ![0, 8, 0] ![1, 16, 3072] inb_S1x24x3072_S1x16x3072_0_8_0).emb (ix3 0 ⟨8 + j.val, by omega⟩ q))) (View.canon_cons_emb _ _ _ _)
  refine funext fun d => Fin.ext ?_
  match d with
  | ⟨0, _⟩ => rfl
  | ⟨1, _⟩ => show 16 + 1 * j.val = 8 + 1 * (8 + j.val); omega
  | ⟨2, _⟩ => rfl

/-- What a sample's point leaves. -/
theorem left_at (t : Fin cfg0.N) (j : Fin 8) (q : Fin 3072) (a : Fin 8704) (h : a.val = 8192 + 16 * t.val + (8 + j.val)) :
    ((outsAt0 m c t).2.2 (ix3 0 j q) : EReal) = m ((c : Thread nD τ).loc main_arg0) (ix2 a ⟨10240 + q.val, by omega⟩) := by
  unfold outsAt0
  frame_out
  exact (pay9_at _ j q).trans ((read_at _ _ _ j q).trans (sample_at m c t ⟨8 + j.val, by omega⟩ q a h))

/-! ## The array after the run -/

theorem final : (dats m 0 c).arrAt 15 cfg0.N = tail (m ((c : Thread nD τ).loc main_arg0)) := by
  refine (dats m 0 c).arrAt_eq_of_covers 15 _ (by decide +kernel) fun t hf y => ?_
  have e0 := Pipeline.Window.rect_emb_val win0_15 t y 0
  have e1 := Pipeline.Window.rect_emb_val win0_15 t y 1
  have e2 := Pipeline.Window.rect_emb_val win0_15 t y 2
  rw [(idx t).2.2] at e0 e1 e2
  change _ = t.val * 1 + (y 0).val at e0
  change _ = 0 * 8 + (y 1).val at e1
  change _ = 0 * 3072 + (y 2).val at e2
  have hy0 : (y 0).val < 1 := (y 0).isLt
  have hy1 : (y 1).val < 8 := (y 1).isLt
  have hy2 : (y 2).val < 3072 := (y 2).isLt
  have ht : t.val < 16 := t.isLt
  have ey : y = ix3 0 ⟨(y 1).val, hy1⟩ ⟨(y 2).val, hy2⟩ := by
    refine funext fun d => Fin.ext ?_
    match d with
    | ⟨0, _⟩ => show (y 0).val = 0; omega
    | ⟨1, _⟩ => rfl
    | ⟨2, _⟩ => rfl
  rw [after0_15]
  refine (congrArg (outsAt0 m c t).2.2 ey).trans ((left_at m c t _ _ ⟨8192 + 16 * t.val + (8 + (y 1).val), by omega⟩ rfl).trans ?_)
  unfold tail
  refine congrArg _ (congrArg₂ ix2 (Fin.ext ?_) (Fin.ext ?_))
  · show 8192 + 16 * t.val + (8 + (y 1).val) = 8192 + 16 * (((cfg0.win 15).rect t).emb y 0).val + 8 + (((cfg0.win 15).rect t).emb y 1).val
    rw [e0, e1]; omega
  · show 10240 + (y 2).val = 10240 + (((cfg0.win 15).rect t).emb y 2).val
    rw [e2]; omega

/-- What the host keeps of the eight rows. -/
theorem kept (p : FVec Ideal S8704x13312 .f32) :
    (broadcastInDim S1x16x3x3072 ![1, 2, 3] bcast_S16x3x3072_S1x16x3x3072_1_2_3 (extractStridedSlice S16x3x3072 ![0, 5, 0] (tail p) slices_S16x8x3072_S16x3x3072_0_5_0) : FVec Ideal S1x16x3x3072 .f32) = out p := by
  funext i
  unfold tail out
  refine congrArg p (congrArg₂ ix2 (Fin.ext ?_) (Fin.ext ?_))
  · show 8192 + 16 * (0 + (i 1).val) + 8 + (5 + (i 2).val) = 8192 + 16 * (i 1).val + 13 + (i 2).val
    omega
  · show 10240 + (0 + (i 3).val) = 10240 + (i 3).val
    omega

/-- The host's lines after the call, read. -/
theorem last_lines : Pipeline.afterTail₀ cfgs (dats m) 0 (V0 m) [hostOps1] c main_v31 = out (m ((c : Thread nD τ).loc main_arg0)) := by
  unfold Pipeline.afterTail₀
  show StableHlo.after hostOps1 _ _ = _
  after_results
  have e : Pipeline.withArrays spec0 c (V0 m c) (fun w => (dats m 0 c).arrAt w cfg0.N) (Proc.devRef .tc main_v29_2) = tail (m ((c : Thread nD τ).loc main_arg0)) :=
    (Pipeline.withArrays_arr_shared spec0 c (V0 m c) _ ((dats m 0 c).arrAt_sharedIn sharedIn0 (V0 m c) (A_eq m c) cfg0.N) 15).trans (final m c)
  refine Eq.trans ?_ (kept (m ((c : Thread nD τ).loc main_arg0)))
  exact congrArg (fun z : FVec Ideal S16x8x3072 .f32 => (broadcastInDim S1x16x3x3072 ![1, 2, 3] bcast_S16x3x3072_S1x16x3x3072_1_2_3 (extractStridedSlice S16x3x3072 ![0, 5, 0] z slices_S16x8x3072_S16x3x3072_0_5_0) : FVec Ideal S1x16x3x3072 .f32)) e

/-- The run, read: the result at the samples' last rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v31) = out (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).2 main_v31 (Pipeline.mem_restRefs_of main_v31 (by decide) (by decide))).trans (last_lines m c), h.2 c⟩)
    (θ_run_and (run_main m ρ) (unchanged m ρ))

end Cert.SsdState

end
-- ==== Proof.Ssd.Reference.lean ====
/- The reference's convolution state: the last three rows of the state and the sample's rows laid end to end, which are
   the sample's own. -/
module

public import proofs.«01_k».proof.Proof.Gen.SsdRefIdeal.Run
public import proofs.«01_k».proof.Proof.Ssd.Spec
public import proofs.«01_k».proof.Defs

@[expose] public section

set_option maxRecDepth 16384

noncomputable section

namespace Cert.SsdState

open Cert.SsdRefIdeal Cert.SsdRefIdeal.Gen Idealize.ShloMosaic Idealize.ShloMosaic.TcCoe Idealize.SL.Sem

/-- The samples' rows of the convolution's columns, sample by sample. -/
abbrev rows (p : FVec Ideal S8704x13312 .f32) : FVec Ideal S16x16x3072 .f32 :=
  shapeCast _ (extractStridedSlice S256x3072 ![8192, 10240] p slices_S8704x13312_S256x3072_8192_10240) shapeCasts_S256x3072_S16x16x3072

/-- The state and the rows end to end. -/
abbrev laid (s : FVec Ideal S1x16x3x3072 .f32) (p : FVec Ideal S8704x13312 .f32) : FVec Ideal S16x19x3072 .f32 :=
  concatenate S16x19x3072 1 [⟨S16x3x3072, shapeCast _ s shapeCasts_S1x16x3x3072_S16x3x3072⟩, ⟨S16x16x3072, rows p⟩] concatenates_S16x3x3072_S16x16x3072_S16x19x3072_d1

theorem rows_at (p : FVec Ideal S8704x13312 .f32) (b r : Fin 16) (q : Fin 3072) :
    (rows p (ix3 b r q) : EReal) = p (ix2 ⟨8192 + 16 * b.val + r.val, by omega⟩ ⟨10240 + q.val, by omega⟩) := by
  unfold rows
  pointwise
  exact congrArg p (congrArg₂ ix2 (Fin.ext (by show 8192 + (b.val * 16 + r.val) = 8192 + 16 * b.val + r.val; omega)) rfl)

theorem laid_at (s : FVec Ideal S1x16x3x3072 .f32) (p : FVec Ideal S8704x13312 .f32) (b : Fin 16) (r : Fin 3) (q : Fin 3072) :
    (laid s p (ix3 b ⟨16 + r.val, by omega⟩ q) : EReal) = p (ix2 ⟨8192 + 16 * b.val + 13 + r.val, by omega⟩ ⟨10240 + q.val, by omega⟩) := by
  unfold laid rows
  pointwise
  rw [dif_neg (by omega)]
  exact congrArg p (congrArg₂ ix2 (Fin.ext (by show 8192 + (b.val * 16 + (16 + r.val - 3)) = 8192 + 16 * b.val + 13 + r.val; omega)) rfl)

theorem ref_out (s : FVec Ideal S1x16x3x3072 .f32) (p : FVec Ideal S8704x13312 .f32) :
    (broadcastInDim S1x16x3x3072 ![1, 2, 3] bcast_S16x3x3072_S1x16x3x3072_1_2_3 (extractStridedSlice S16x3x3072 ![0, 16, 0] (laid s p) slices_S16x19x3072_S16x3x3072_0_16_0) : FVec Ideal S1x16x3x3072 .f32) = out p := by
  funext i
  have h1 : (i 1).val < 16 := (i 1).isLt
  have h2 : (i 2).val < 3 := (i 2).isLt
  have h3 : (i 3).val < 3072 := (i 3).isLt
  have k := laid_at s p ⟨(i 1).val, h1⟩ ⟨(i 2).val, h2⟩ ⟨(i 3).val, h3⟩
  generalize laid s p = l at k ⊢
  have e4 : i = ix4 0 ⟨(i 1).val, h1⟩ ⟨(i 2).val, h2⟩ ⟨(i 3).val, h3⟩ := by
    refine funext fun d => Fin.ext ?_
    match d with
    | ⟨0, _⟩ => have h0 : (i 0).val < 1 := (i 0).isLt; show (i 0).val = 0; omega
    | ⟨1, _⟩ => rfl
    | ⟨2, _⟩ => rfl
    | ⟨3, _⟩ => rfl
  rw [e4]
  refine Eq.trans ?_ k
  pointwise

variable (m : (ℓ : Loc nD τ sig) → Buf (Elt Ideal) ℓ)

/-- The reference's run, read. -/
theorem ref_run (ρ : Dev nD → PrngReg) :
    θ_run defs (onTc (τ := τ) (main (F := Ideal))) ⟨m, fun _ => 0, ρ⟩ fun r => ∀ c : Dev nD,
      r.2.mem ((c : Thread nD τ).loc main_v5) = out (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (ref_out _ _), (h c).2⟩) (Value.run (F := Ideal) m ρ)

/-- The reference's frame: it names no semaphore. -/
theorem frame_ref : Cert.quiescent_SsdRefIdeal := fun m ρ _ =>
  (θ_run defs _ _).mono (fun r h => ⟨fun c => (h c).2, sem_eq_zero_of_no_sems (by decide) r.2⟩) (ref_run m ρ)

end Cert.SsdState

end
-- ==== Proof.FfnIn.Run.lean ====
/- The first feed-forward kernel's body, case by case: what a run of it leaves in its scratch and in its outputs. -/
module

public import proofs.«01_k».proof.Proof.Gen.FfnInIdeal.Launch
public import proofs.«01_k».proof.Proof.Gen.FfnInIdeal.Skeleton
public import proofs.«01_k».proof.Proof.Gen.FfnInIdeal.Points
public import proofs.«01_k».proof.Proof.Gen.FfnInIdeal.Frame
public import Idealize.ShloMosaic.Lib.Pipeline.FrameBody
public import Idealize.ShloMosaic.Lib.Pipeline.ValueKit.Acc
public import Idealize.ShloMosaic.Lib.Ring
public import Idealize.ShloMosaic.Lib.Tactic
public import Idealize.ShloMosaic.Lib.Tactic.Stretches
public import Idealize.ShloMosaic.Lib.WordCmp

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

/-- A store of a whole buffer, read back. -/
theorem stored {S : Shape} {e : EltTy} {sp : Space} (v : View sig .tc sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  subst h; exact View.read_writes_whole v f w

/-- The offsets of a whole load or store. -/
theorem zero2 : (![0, 0] : Fin 2 → ℕ) = fun _ => 0 := by decide

/-- The condition of the weight's copy: a point that has a block of it to copy. -/
abbrev copyOf (i : grid0.Coords) : Prop := k0_cond1 i = 1#1
/-- The first block of columns of the first block of rows. -/
abbrev firstOf (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- The first block of columns of a later block of rows. -/
abbrev nextOf (i : grid0.Coords) : Prop := k0_cond3 i = 1#1
/-- The first point past the last block of rows. -/
abbrev pastOf (i : grid0.Coords) : Prop := k0_cond4 i = 1#1
/-- A block of columns neither first nor last. -/
abbrev midOf (i : grid0.Coords) : Prop := (Scalar.cmpi .ne (Scalar.extui (Scalar.andi (Scalar.cmpi .slt (BitVec.ofNat 32 (i 0).val) 17#32) (Scalar.andi (Scalar.cmpi .sgt (BitVec.ofNat 32 (i 1).val) 0#32) (Scalar.cmpi .slt (BitVec.ofNat 32 (i 1).val) 10#32)))) 0#32) = 1#1
/-- The last block of columns. -/
abbrev lastOf (i : grid0.Coords) : Prop := (Scalar.cmpi .ne (Scalar.extui (Scalar.andi (Scalar.cmpi .slt (BitVec.ofNat 32 (i 0).val) 17#32) (Scalar.cmpi .eq (BitVec.ofNat 32 (i 1).val) 10#32))) 0#32) = 1#1

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S96x2048 .bf16) (harg12 : arg12.IsWhole) (arg13 : Memref sig .tc .vmem S512x2048 .bf16) (harg13 : arg13.IsWhole) (arg14 : Memref sig .tc .vmem S512x2048 .f32) (harg14 : arg14.IsWhole) (arg15 : Memref sig .tc .vmem S512x2048 .f32) (harg15 : arg15.IsWhole)
    (x0 : Vec F S512x2048 .f32) (x1 : Vec F S512x2048 .f32) (x2 : Vec F S2048x512 .bf16) (x3 : Vec F S2048x512 .bf16) (x4 : Vec F S512x2048 .bf16) (x5 : Vec F S1x2048 .f32) (x6 : Vec F S1x2048 .f32) (x7 : Vec F S96x2048 .f32) (y8 : Vec F S512x2048 .f32) (y9 : Vec F S512x2048 .bf16) (y10 : Vec F S96x2048 .bf16) (X : Vec F S512x2048 .bf16) (A : Vec F S512x2048 .f32) (S : Vec F S512x2048 .f32)

/-- The body's buffers at given contents: eight inputs, three outputs, three scratch buffers. -/
abbrev held : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare X ∗ owns (c : Thread nD τ) arg14 fullShare A ∗ owns (c : Thread nD τ) arg15 fullShare S)

/-- A run of the body from the one contents ends with the others. -/
abbrev Leaves (y8' : Vec F S512x2048 .f32) (y9' : Vec F S512x2048 .bf16) (y10' : Vec F S96x2048 .bf16) (X' : Vec F S512x2048 .bf16) (A' : Vec F S512x2048 .f32) (S' : Vec F S512x2048 .f32) : Prop :=
  ∀ (E : Set ℕ) (K : PUnit → sProp 𝕄),
    iprop(held c arg2 arg3 arg4 arg5 arg6 arg7 arg8 arg9 arg10 arg11 arg12 arg13 arg14 arg15 x0 x1 x2 x3 x4 x5 x6 x7 y8 y9 y10 X A S
        ∗ (held c arg2 arg3 arg4 arg5 arg6 arg7 arg8 arg9 arg10 arg11 arg12 arg13 arg14 arg15 x0 x1 x2 x3 x4 x5 x6 x7 y8' y9' y10' X' A' S' -∗ K ⟨⟩))
      ⊢ wp frame (wpE (defs₀ (F := F)) Variants.none c none) E (cc0_ffn_ln_in i arg2 harg2 arg3 harg3 arg4 harg4 arg5 harg5 arg6 harg6 arg7 harg7 arg8 harg8 arg9 harg9 arg10 harg10 arg11 harg11 arg12 harg12 arg13 harg13 arg14 harg14 arg15 harg15) K

end Cert.FfnInIdeal.Body

end

end
-- ==== Proof.FfnIn.RunA.lean ====
/- The first feed-forward kernel's body at the points that start a block of rows and the first point past the rows. -/
module

public import proofs.«01_k».proof.Proof.FfnIn.Run

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S96x2048 .bf16) (harg12 : arg12.IsWhole) (arg13 : Memref sig .tc .vmem S512x2048 .bf16) (harg13 : arg13.IsWhole) (arg14 : Memref sig .tc .vmem S512x2048 .f32) (harg14 : arg14.IsWhole) (arg15 : Memref sig .tc .vmem S512x2048 .f32) (harg15 : arg15.IsWhole)
    (x0 : Vec F S512x2048 .f32) (x1 : Vec F S512x2048 .f32) (x2 : Vec F S2048x512 .bf16) (x3 : Vec F S2048x512 .bf16) (x4 : Vec F S512x2048 .bf16) (x5 : Vec F S1x2048 .f32) (x6 : Vec F S1x2048 .f32) (x7 : Vec F S96x2048 .f32) (y8 : Vec F S512x2048 .f32) (y9 : Vec F S512x2048 .bf16) (y10 : Vec F S96x2048 .bf16) (X : Vec F S512x2048 .bf16) (A : Vec F S512x2048 .f32) (S : Vec F S512x2048 .f32)

variable {z : Vec F S96x2048 .bf16} (hk : copyOf i ∧ z = k0_pay8 x7 ∨ ¬copyOf i ∧ z = y10)

set_option maxHeartbeats 2000000 in
include hk in
/-- The first block of columns of the first block of rows: the rows, and the first term of their sum. -/
theorem run_first (hc0 : firstOf i) (hc1 : ¬nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      y8 y9 z (k0_pay10 i x0 x1) (k0_pay11 i x0 x1 x2 x3 x4) S := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; swap; · iexact H11
      ipureintro; refine (stored _ _ zero2 _ _).trans ?_
      simp (disch := decide) only [View.readAt_eq_ld, View.ld_unit_lit', Memref.IsWhole.read_unread]
    isplitl [H12]
    · iexists _; isplitr; swap; · iexact H12
      ipureintro; refine (stored _ _ zero2 _ _).trans ?_
      simp (disch := decide) only [View.readAt_eq_ld, View.ld_unit_lit', Memref.IsWhole.read_unread]
    iexists _; isplitr; · ipureintro; exact harg15.read_unread _
    iexact H13
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; refine (stored _ _ zero2 _ _).trans ?_
      simp (disch := decide) only [View.readAt_eq_ld, View.ld_unit_lit', Memref.IsWhole.read_unread]
    isplitl [H12]
    · iexists _; isplitr; swap; · iexact H12
      ipureintro; refine (stored _ _ zero2 _ _).trans ?_
      simp (disch := decide) only [View.readAt_eq_ld, View.ld_unit_lit', Memref.IsWhole.read_unread]
    iexists _; isplitr; · ipureintro; exact harg15.read_unread _
    iexact H13

set_option maxHeartbeats 2000000 in
include hk in
/-- The first block of columns of a later block of rows: the rows, the first term of their sum, and the rows before normalised. -/
theorem run_next (hc0 : ¬firstOf i) (hc1 : nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      (k0_pay14 S x5 x6) (k0_pay15 S x5 x6) z (k0_pay10 i x0 x1) (k0_pay11 i x0 x1 x2 x3 x4) S := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; refine (stored _ _ zero2 _ _).trans ?_
      sl_open_run
      simp (disch := decide) only [View.readAt_eq_ld, View.ld_unit_lit', Memref.IsWhole.read_unread]
      rfl
    isplitl [H9]
    · iexists _; isplitr; swap; · iexact H9
      ipureintro; refine (stored _ _ zero2 _ _).trans ?_
      sl_open_run
      simp (disch := decide) only [View.readAt_eq_ld, View.ld_unit_lit', Memref.IsWhole.read_unread]
      rfl
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; swap; · iexact H11
      ipureintro; refine (stored _ _ zero2 _ _).trans ?_
      simp (disch := decide) only [View.readAt_eq_ld, View.ld_unit_lit', Memref.IsWhole.read_unread]
      rfl
    isplitl [H12]
    · iexists _; isplitr; swap; · iexact H12
      ipureintro; refine (stored _ _ zero2 _ _).trans ?_
      simp (disch := decide) only [View.readAt_eq_ld, View.ld_unit_lit', Memref.IsWhole.read_unread]
      rfl
    iexists _; isplitr; · ipureintro; exact harg15.read_unread _
    iexact H13
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; refine (stored _ _ zero2 _ _).trans ?_
      sl_open_run
      simp (disch := decide) only [View.readAt_eq_ld, View.ld_unit_lit', Memref.IsWhole.read_unread]
      rfl
    isplitl [H9]
    · iexists _; isplitr; swap; · iexact H9
      ipureintro; refine (stored _ _ zero2 _ _).trans ?_
      sl_open_run
      simp (disch := decide) only [View.readAt_eq_ld, View.ld_unit_lit', Memref.IsWhole.read_unread]
      rfl
    isplitl [H10]
    · iexists _; isplitr; · ipureintro; exact harg12.read_unread _
      iexact H10
    isplitl [H11]
    · iexists _; isplitr; swap; · iexact H11
      ipureintro; refine (stored _ _ zero2 _ _).trans ?_
      simp (disch := decide) only [View.readAt_eq_ld, View.ld_unit_lit', Memref.IsWhole.read_unread]
      rfl
    isplitl [H12]
    · iexists _; isplitr; swap; · iexact H12
      ipureintro; refine (stored _ _ zero2 _ _).trans ?_
      simp (disch := decide) only [View.readAt_eq_ld, View.ld_unit_lit', Memref.IsWhole.read_unread]
      rfl
    iexists _; isplitr; · ipureintro; exact harg15.read_unread _
    iexact H13

set_option maxHeartbeats 2000000 in
include hk in
/-- The first point past the rows: the last rows normalised. -/
theorem run_past (hc0 : ¬firstOf i) (hc1 : ¬nextOf i) (hc2 : pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      (k0_pay14 S x5 x6) (k0_pay15 S x5 x6) z X A S := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; refine (stored _ _ zero2 _ _).trans ?_
      simp (disch := decide) only [View.readAt_eq_ld, View.ld_unit_lit', Memref.IsWhole.read_unread]
    isplitl [H9]
    · iexists _; isplitr; swap; · iexact H9
      ipureintro; refine (stored _ _ zero2 _ _).trans ?_
      simp (disch := decide) only [View.readAt_eq_ld, View.ld_unit_lit', Memref.IsWhole.read_unread]
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; · ipureintro; exact harg13.read_unread _
      iexact H11
    isplitl [H12]
    · iexists _; isplitr; · ipureintro; exact harg14.read_unread _
      iexact H12
    iexists _; isplitr; · ipureintro; exact harg15.read_unread _
    iexact H13
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; refine (stored _ _ zero2 _ _).trans ?_
      simp (disch := decide) only [View.readAt_eq_ld, View.ld_unit_lit', Memref.IsWhole.read_unread]
    isplitl [H9]
    · iexists _; isplitr; swap; · iexact H9
      ipureintro; refine (stored _ _ zero2 _ _).trans ?_
      simp (disch := decide) only [View.readAt_eq_ld, View.ld_unit_lit', Memref.IsWhole.read_unread]
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; isplitr; · ipureintro; exact harg15.read_unread _
    iexact H13

end Cert.FfnInIdeal.Body

end

end
-- ==== Proof.FfnIn.RunB.lean ====
/- The first feed-forward kernel's body at the other points. -/
module

public import proofs.«01_k».proof.Proof.FfnIn.Run

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S96x2048 .bf16) (harg12 : arg12.IsWhole) (arg13 : Memref sig .tc .vmem S512x2048 .bf16) (harg13 : arg13.IsWhole) (arg14 : Memref sig .tc .vmem S512x2048 .f32) (harg14 : arg14.IsWhole) (arg15 : Memref sig .tc .vmem S512x2048 .f32) (harg15 : arg15.IsWhole)
    (x0 : Vec F S512x2048 .f32) (x1 : Vec F S512x2048 .f32) (x2 : Vec F S2048x512 .bf16) (x3 : Vec F S2048x512 .bf16) (x4 : Vec F S512x2048 .bf16) (x5 : Vec F S1x2048 .f32) (x6 : Vec F S1x2048 .f32) (x7 : Vec F S96x2048 .f32) (y8 : Vec F S512x2048 .f32) (y9 : Vec F S512x2048 .bf16) (y10 : Vec F S96x2048 .bf16) (X : Vec F S512x2048 .bf16) (A : Vec F S512x2048 .f32) (S : Vec F S512x2048 .f32)

variable {z : Vec F S96x2048 .bf16} (hk : copyOf i ∧ z = k0_pay8 x7 ∨ ¬copyOf i ∧ z = y10)

set_option maxHeartbeats 2000000 in
include hk in
/-- A block of columns neither first nor last: one more term of the sum. -/
theorem run_mid (hc0 : ¬firstOf i) (hc1 : ¬nextOf i) (hc2 : ¬pastOf i) (hc3 : midOf i) (hc4 : ¬lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      y8 y9 z X (k0_pay16 A X x2 x3 x4) S := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; · ipureintro; exact harg13.read_unread _
      iexact H11
    isplitl [H12]
    · iexists _; isplitr; swap; · iexact H12
      ipureintro; refine (stored _ _ zero2 _ _).trans ?_
      simp (disch := decide) only [View.readAt_eq_ld, View.ld_unit_lit', Memref.IsWhole.read_unread]
    iexists _; isplitr; · ipureintro; exact harg15.read_unread _
    iexact H13
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; swap; · iexact H12
      ipureintro; refine (stored _ _ zero2 _ _).trans ?_
      simp (disch := decide) only [View.readAt_eq_ld, View.ld_unit_lit', Memref.IsWhole.read_unread]
    iexists _; isplitr; · ipureintro; exact harg15.read_unread _
    iexact H13

set_option maxHeartbeats 2000000 in
include hk in
/-- The last block of columns: the sum completed and added to the rows. -/
theorem run_last (hc0 : ¬firstOf i) (hc1 : ¬nextOf i) (hc2 : ¬pastOf i) (hc3 : ¬midOf i) (hc4 : lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      y8 y9 z X A (k0_pay1 (BitVec.ofNat 32 (i 0).val) x0 x1 A X x2 x3 x4) := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; · ipureintro; exact harg13.read_unread _
      iexact H11
    isplitl [H12]
    · iexists _; isplitr; · ipureintro; exact harg14.read_unread _
      iexact H12
    iexists _; isplitr; swap; · iexact H13
    ipureintro; refine (stored _ _ zero2 _ _).trans ?_
    simp (disch := decide) only [View.readAt_eq_ld, View.ld_unit_lit', Memref.IsWhole.read_unread]
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; isplitr; swap; · iexact H13
    ipureintro; refine (stored _ _ zero2 _ _).trans ?_
    simp (disch := decide) only [View.readAt_eq_ld, View.ld_unit_lit', Memref.IsWhole.read_unread]

set_option maxHeartbeats 2000000 in
include hk in
/-- A later point past the rows: nothing. -/
theorem run_none (hc0 : ¬firstOf i) (hc1 : ¬nextOf i) (hc2 : ¬pastOf i) (hc3 : ¬midOf i) (hc4 : ¬lastOf i) :
    Leaves c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y8 y9 y10 X A S
      y8 y9 z X A S := by
  intro E K
  simp only [cc0_ffn_ln_in_eq_skeleton]; unfold cc0_ffn_ln_in_skel
  simp only [k0_part2_eq_skeleton]; unfold k0_part2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  rcases hk with ⟨hk, rfl⟩ | ⟨hk, rfl⟩
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine (stored _ _ zero2 _ _).trans ?_
      simp (disch := decide) only [View.readAt_eq_ld, View.ld_unit_lit', Memref.IsWhole.read_unread]
    isplitl [H11]
    · iexists _; isplitr; · ipureintro; exact harg13.read_unread _
      iexact H11
    isplitl [H12]
    · iexists _; isplitr; · ipureintro; exact harg14.read_unread _
      iexact H12
    iexists _; isplitr; · ipureintro; exact harg15.read_unread _
    iexact H13
  · sl_exec (disch := first | sl_exact hk | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; isplitr; · ipureintro; exact harg15.read_unread _
    iexact H13

end Cert.FfnInIdeal.Body

end

end
-- ==== Proof.FfnIn.Frame.lean ====
/- The first feed-forward kernel's run: what its scratch and its outputs hold before every point of the grid, and what
   its arrays hold at the end. The grid is 18 by 11, row by row: at the 11 points of one of its first 17 rows the kernel
   sums one block of 512 rows over the 11 blocks of hidden columns, and at the first point of the next row it writes that
   block of rows out, normalised, twice; at each of its first 133 points it also copies a block of a weight. -/
module

public import proofs.«01_k».proof.Proof.FfnIn.RunA
public import proofs.«01_k».proof.Proof.FfnIn.RunB
public import Idealize.ShloMosaic.Lib.Pipeline.TableIdle
public import Idealize.ShloMosaic.Lib.Claim

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The grid's points -/

/-- Point `n` of the grid. -/
def pt (n : ℕ) : Fin cfg0.N := ⟨n % 198, by rw [show cfg0.N = 198 from N_0]; omega⟩

theorem pt_val (t : Fin cfg0.N) : pt t.val = t :=
  Fin.ext (Nat.mod_eq_of_lt (lt_of_lt_of_eq t.isLt (show cfg0.N = 198 from N_0)))

theorem copyOf_iff : ∀ t : Fin cfg0.N, copyOf (grid0.coords t) ↔ t.val < 133 :=
  (by decide +kernel : ∀ t : Fin grid0.N, copyOf (grid0.coords t) ↔ t.val < 133)
theorem firstOf_iff : ∀ t : Fin cfg0.N, firstOf (grid0.coords t) ↔ t.val = 0 :=
  (by decide +kernel : ∀ t : Fin grid0.N, firstOf (grid0.coords t) ↔ t.val = 0)
theorem nextOf_iff : ∀ t : Fin cfg0.N, nextOf (grid0.coords t) ↔ t.val % 11 = 0 ∧ 11 ≤ t.val ∧ t.val < 187 :=
  (by decide +kernel : ∀ t : Fin grid0.N, nextOf (grid0.coords t) ↔ t.val % 11 = 0 ∧ 11 ≤ t.val ∧ t.val < 187)
theorem pastOf_iff : ∀ t : Fin cfg0.N, pastOf (grid0.coords t) ↔ t.val = 187 :=
  (by decide +kernel : ∀ t : Fin grid0.N, pastOf (grid0.coords t) ↔ t.val = 187)
theorem midOf_iff : ∀ t : Fin cfg0.N, midOf (grid0.coords t) ↔ t.val < 187 ∧ t.val % 11 ≠ 0 ∧ t.val % 11 ≠ 10 :=
  (by decide +kernel : ∀ t : Fin grid0.N, midOf (grid0.coords t) ↔ t.val < 187 ∧ t.val % 11 ≠ 0 ∧ t.val % 11 ≠ 10)
theorem lastOf_iff : ∀ t : Fin cfg0.N, lastOf (grid0.coords t) ↔ t.val < 187 ∧ t.val % 11 = 10 :=
  (by decide +kernel : ∀ t : Fin grid0.N, lastOf (grid0.coords t) ↔ t.val < 187 ∧ t.val % 11 = 10)

theorem idle8 : ∀ t : Fin cfg0.N, cfg0.idle 8 (grid0.coords t) = !decide (t.val % 11 = 0 ∧ 11 ≤ t.val ∧ t.val ≤ 187) :=
  (by decide +kernel : ∀ t : Fin grid0.N, idle0 8 (grid0.coords t) = !decide (t.val % 11 = 0 ∧ 11 ≤ t.val ∧ t.val ≤ 187))
theorem idle9 : ∀ t : Fin cfg0.N, cfg0.idle 9 (grid0.coords t) = !decide (t.val % 11 = 0 ∧ 11 ≤ t.val ∧ t.val ≤ 187) :=
  (by decide +kernel : ∀ t : Fin grid0.N, idle0 9 (grid0.coords t) = !decide (t.val % 11 = 0 ∧ 11 ≤ t.val ∧ t.val ≤ 187))
theorem idle10 : ∀ t : Fin cfg0.N, cfg0.idle 10 (grid0.coords t) = !decide (t.val < 133) :=
  (by decide +kernel : ∀ t : Fin grid0.N, idle0 10 (grid0.coords t) = !decide (t.val < 133))

theorem flush8 : ∀ t : Fin cfg0.N, (cfg0.win 8).flush t = decide (t.val % 11 = 10 ∧ 21 ≤ t.val) :=
  (fun t => (win0_8.flush_eq_flushF t).trans ((by decide +kernel : ∀ t : Fin grid0.N, win0_8.flushF t = decide (t.val % 11 = 10 ∧ 21 ≤ t.val)) t)
    : ∀ t : Fin grid0.N, win0_8.flush t = decide (t.val % 11 = 10 ∧ 21 ≤ t.val))
theorem flush9 : ∀ t : Fin cfg0.N, (cfg0.win 9).flush t = decide (t.val % 11 = 10 ∧ 21 ≤ t.val) :=
  (fun t => (win0_9.flush_eq_flushF t).trans ((by decide +kernel : ∀ t : Fin grid0.N, win0_9.flushF t = decide (t.val % 11 = 10 ∧ 21 ≤ t.val)) t)
    : ∀ t : Fin grid0.N, win0_9.flush t = decide (t.val % 11 = 10 ∧ 21 ≤ t.val))
theorem flush10 : ∀ t : Fin cfg0.N, (cfg0.win 10).flush t = decide (t.val < 132 ∨ t.val = 197) :=
  (fun t => (win0_10.flush_eq_flushF t).trans ((by decide +kernel : ∀ t : Fin grid0.N, win0_10.flushF t = decide (t.val < 132 ∨ t.val = 197)) t)
    : ∀ t : Fin grid0.N, win0_10.flush t = decide (t.val < 132 ∨ t.val = 197))

/-- Where the buffer of an output of rows holds nothing stored since it was last written back. -/
def freshRows (n : ℕ) : Bool := decide (n ≤ 11 ∨ n % 11 = 0)

/-- Where the copy's does. -/
def freshCopy (n : ℕ) : Bool := decide (n ≤ 132 ∨ n = 198)

theorem fresh8_eq (n : ℕ) (h : n ≤ cfg0.N) : cfg0.fresh 8 n = freshRows n :=
  Cfg.fresh_tab cfg0 8 freshRows rfl (fun t => by
    have hN : t.val < 198 := lt_of_lt_of_eq t.isLt (show cfg0.N = 198 from N_0)
    rw [flush8, show cfg0.idle 8 (cfg0.grid.coords t) = _ from idle8 t, freshRows, freshRows, Bool.eq_iff_iff]
    simp only [Bool.or_eq_true, Bool.and_eq_true, Bool.not_eq_true', decide_eq_true_iff, decide_eq_false_iff_not]
    omega) n h

theorem fresh9_eq (n : ℕ) (h : n ≤ cfg0.N) : cfg0.fresh 9 n = freshRows n :=
  Cfg.fresh_tab cfg0 9 freshRows rfl (fun t => by
    have hN : t.val < 198 := lt_of_lt_of_eq t.isLt (show cfg0.N = 198 from N_0)
    rw [flush9, show cfg0.idle 9 (cfg0.grid.coords t) = _ from idle9 t, freshRows, freshRows, Bool.eq_iff_iff]
    simp only [Bool.or_eq_true, Bool.and_eq_true, Bool.not_eq_true', decide_eq_true_iff, decide_eq_false_iff_not]
    omega) n h

theorem fresh10_eq (n : ℕ) (h : n ≤ cfg0.N) : cfg0.fresh 10 n = freshCopy n :=
  Cfg.fresh_tab cfg0 10 freshCopy rfl (fun t => by
    have hN : t.val < 198 := lt_of_lt_of_eq t.isLt (show cfg0.N = 198 from N_0)
    rw [flush10, show cfg0.idle 10 (cfg0.grid.coords t) = _ from idle10 t, freshCopy, freshCopy, Bool.eq_iff_iff]
    simp only [Bool.or_eq_true, Bool.and_eq_true, Bool.not_eq_true', decide_eq_true_iff, decide_eq_false_iff_not]
    omega) n h

/-! ## What the kernel computes, block by block -/

/-- The block of rows of frames that the kernel reads at point `n`. -/
def bx (n : ℕ) : Vec F S512x2048 .f32 := iblk m c 0 (pt n)
/-- The block of the other rows. -/
def be (n : ℕ) : Vec F S512x2048 .f32 := iblk m c 1 (pt n)
/-- The block of gate columns. -/
def bg (n : ℕ) : Vec F S2048x512 .bf16 := iblk m c 2 (pt n)
/-- The block of up columns. -/
def bu (n : ℕ) : Vec F S2048x512 .bf16 := iblk m c 3 (pt n)
/-- The block of down rows. -/
def bd (n : ℕ) : Vec F S512x2048 .bf16 := iblk m c 4 (pt n)
/-- The scale. -/
def bγ (n : ℕ) : Vec F S1x2048 .f32 := iblk m c 5 (pt n)
/-- The shift. -/
def bβ (n : ℕ) : Vec F S1x2048 .f32 := iblk m c 6 (pt n)
/-- The block of the weight to copy. -/
def bw (n : ℕ) : Vec F S96x2048 .f32 := iblk m c 7 (pt n)

/-- Block `i` of the rows, as the products take it. -/
def rows (i : ℕ) : Vec F S512x2048 .bf16 := k0_pay10 (grid0.coords (pt (11 * i))) (bx m c (11 * i)) (be m c (11 * i))

/-- The sum over the blocks of hidden columns `0 … f` of row block `i`. -/
def sums (i : ℕ) : ℕ → Vec F S512x2048 .f32
  | 0 => k0_pay11 (grid0.coords (pt (11 * i))) (bx m c (11 * i)) (be m c (11 * i)) (bg m c (11 * i)) (bu m c (11 * i)) (bd m c (11 * i))
  | f + 1 => k0_pay16 (sums i f) (rows m c i) (bg m c (11 * i + (f + 1))) (bu m c (11 * i + (f + 1))) (bd m c (11 * i + (f + 1)))

/-- Row block `i` with the whole sum added. -/
def full (i : ℕ) : Vec F S512x2048 .f32 :=
  k0_pay1 (BitVec.ofNat 32 (grid0.coords (pt (11 * i + 10)) 0).val) (bx m c (11 * i + 10)) (be m c (11 * i + 10)) (sums m c i 9) (rows m c i) (bg m c (11 * i + 10)) (bu m c (11 * i + 10)) (bd m c (11 * i + 10))

/-- Row block `i` normalised, as the first output takes it. -/
def outMain (i : ℕ) : Vec F S512x2048 .f32 := k0_pay14 (full m c i) (bγ m c (11 * (i + 1))) (bβ m c (11 * (i + 1)))

/-- The same, as the second takes it. -/
def outNarrow (i : ℕ) : Vec F S512x2048 .bf16 := k0_pay15 (full m c i) (bγ m c (11 * (i + 1))) (bβ m c (11 * (i + 1)))

/-- Block `n` of the weight, copied. -/
def copied (n : ℕ) : Vec F S96x2048 .bf16 := k0_pay8 (bw m c n)

/-- The scratch buffers' contents before point `n`. -/
structure Inv (n : ℕ) (X : Vec F S512x2048 .bf16) (A S : Vec F S512x2048 .f32) : Prop where
  hX : n % 11 ≠ 0 → n < 187 → X = rows m c (n / 11)
  hA : n % 11 ≠ 0 → n < 187 → A = sums m c (n / 11) (n % 11 - 1)
  hS : 11 ≤ n → S = full m c (min (n / 11 - 1) 16)

/-- The body's invariant before point `n`. -/
def PhiS (n : ℕ) : sProp 𝕄 :=
  iprop(∃ (X : Vec F S512x2048 .bf16) (A S : Vec F S512x2048 .f32), ⌜Inv m c n X A S⌝
    ∗ owns (c : Thread nD τ) (Memref.whole cc0_scratch0) fullShare X ∗ owns (c : Thread nD τ) (Memref.whole cc0_scratch1) fullShare A
    ∗ owns (c : Thread nD τ) (Memref.whole cc0_scratch2) fullShare S ∗ (∃ r, prngReg c r))

/-- The proof data of the pipeline: each input's buffer at its block, the outputs' at what was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outMain m c (t.val / 11 - 1)
    | ⟨9, _⟩ => outNarrow m c (t.val / 11 - 1)
    | ⟨10, _⟩ => copied m c (min t.val 132)
  Φ t := PhiS m c t.val
  q w := Pipeline.shareOf spec0 w
  owed _ := 0

theorem A_eq (c : Dev nD) (w : Fin cfg0.W) : (dats m 0 c).A w = V m c (Pipeline.arrRef spec0 w) := by dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = outMain m c (t.val / 11 - 1) := by dsimp only [dats]
theorem after0_9 (t : Fin cfg0.N) : (dats m 0 c).after 9 t = outNarrow m c (t.val / 11 - 1) := by dsimp only [dats]
theorem after0_10 (t : Fin cfg0.N) : (dats m 0 c).after 10 t = copied m c (min t.val 132) := by dsimp only [dats]

theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d
theorem before0_6 (t : Fin cfg0.N) (d) : (dats m 0 c).before 6 t d = iblk m c 6 t := before0_6_of m (dats m 0 c) (A_eq m c 6) (after0_6 m c) t d
theorem before0_7 (t : Fin cfg0.N) (d) : (dats m 0 c).before 7 t d = iblk m c 7 t := before0_7_of m (dats m 0 c) (A_eq m c 7) (after0_7 m c) t d

/-- At a point that writes the output back, its buffer holds the rows last stored. -/
theorem before8 (t : Fin cfg0.N) (hf : (cfg0.win 8).flush t = true) (d) : (dats m 0 c).before 8 t d = (dats m 0 c).after 8 t := by
  have hN : t.val < 198 := lt_of_lt_of_eq t.isLt (show cfg0.N = 198 from N_0)
  rw [flush8, decide_eq_true_iff] at hf
  rw [(dats m 0 c).before_out_traj 8 rfl (fun _ _ => rfl) (fun t ht hi _ => ?_) t.val t rfl d, fresh8_eq _ t.isLt.le, freshRows,
    if_neg (by rw [decide_eq_true_iff]; omega), after0_8, after0_8]
  · exact congrArg _ (by show (t.val - 1) / 11 - 1 = _; omega)
  · have hN : t.val < 198 := lt_of_lt_of_eq t.isLt (show cfg0.N = 198 from N_0)
    rw [show cfg0.idle 8 (cfg0.grid.coords t) = _ from idle8 t, Bool.not_eq_true', decide_eq_false_iff_not] at hi
    rw [after0_8, after0_8]
    exact congrArg _ (by show _ = (t.val - 1) / 11 - 1; omega)

/-- At a point that writes the output back, its buffer holds the rows last stored. -/
theorem before9 (t : Fin cfg0.N) (hf : (cfg0.win 9).flush t = true) (d) : (dats m 0 c).before 9 t d = (dats m 0 c).after 9 t := by
  have hN : t.val < 198 := lt_of_lt_of_eq t.isLt (show cfg0.N = 198 from N_0)
  rw [flush9, decide_eq_true_iff] at hf
  rw [(dats m 0 c).before_out_traj 9 rfl (fun _ _ => rfl) (fun t ht hi _ => ?_) t.val t rfl d, fresh9_eq _ t.isLt.le, freshRows,
    if_neg (by rw [decide_eq_true_iff]; omega), after0_9, after0_9]
  · exact congrArg _ (by show (t.val - 1) / 11 - 1 = _; omega)
  · have hN : t.val < 198 := lt_of_lt_of_eq t.isLt (show cfg0.N = 198 from N_0)
    rw [show cfg0.idle 9 (cfg0.grid.coords t) = _ from idle9 t, Bool.not_eq_true', decide_eq_false_iff_not] at hi
    rw [after0_9, after0_9]
    exact congrArg _ (by show _ = (t.val - 1) / 11 - 1; omega)

/-- Past the last block to copy, the copy's buffer holds that block. -/
theorem before10 (t : Fin cfg0.N) (h : 133 ≤ t.val) (d) : (dats m 0 c).before 10 t d = (dats m 0 c).after 10 t := by
  have hN : t.val < 198 := lt_of_lt_of_eq t.isLt (show cfg0.N = 198 from N_0)
  rw [(dats m 0 c).before_out_traj 10 rfl (fun _ _ => rfl) (fun t ht hi _ => ?_) t.val t rfl d, fresh10_eq _ t.isLt.le, freshCopy,
    if_neg (by rw [decide_eq_true_iff]; omega), after0_10, after0_10]
  · exact congrArg _ (by show min (t.val - 1) 132 = _; omega)
  · have hN : t.val < 198 := lt_of_lt_of_eq t.isLt (show cfg0.N = 198 from N_0)
    rw [show cfg0.idle 10 (cfg0.grid.coords t) = _ from idle10 t, Bool.not_eq_true', decide_eq_false_iff_not] at hi
    rw [after0_10, after0_10]
    exact congrArg _ (by show _ = min (t.val - 1) 132; omega)

/-! ## The body at a point -/

theorem leaves_in (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- An output the point does not store is left as it was found. -/
theorem keep (w : Fin cfg0.W) (t : Fin cfg0.N) (h : cfg0.idle w (grid0.coords t) = true)
    (hb : (cfg0.win w).flush t = true → ∀ d, (dats m 0 c).before w t d = (dats m 0 c).after w t) (d) :
    owns (c : Thread nD τ) ((cfg0.win w).stage (cfg0.slots t w)) fullShare ((dats m 0 c).before w t d) ⊢ (dats m 0 c).leavesExact w t := by
  unfold Dat.leavesExact; rw [h]
  cases hf : (cfg0.win w).flush t
  · iintro H; iexists d; iexact H
  · rw [hb hf d]

/-- What the body is called with at point `t`, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A run of the body from what the point finds, with what it leaves: the obligation at the point. -/
theorem point (t : Fin cfg0.N) (y8 y8' : Vec F S512x2048 .f32) (y9 y9' : Vec F S512x2048 .bf16) (y10 y10' : Vec F S96x2048 .bf16) (X X' : Vec F S512x2048 .bf16) (A S A' S' : Vec F S512x2048 .f32)
    (hrun : Leaves c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
      (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (iblk m c 5 t) (iblk m c 6 t) (iblk m c 7 t) y8 y9 y10 X A S y8' y9' y10' X' A' S')
    (hI : Inv m c (t.val + 1) X' A' S')
    (h8 : owns (c : Thread nD τ) (st0_8 t) fullShare y8' ⊢ (dats m 0 c).leavesExact 8 t)
    (h9 : owns (c : Thread nD τ) (st0_9 t) fullShare y9' ⊢ (dats m 0 c).leavesExact 9 t)
    (h10 : owns (c : Thread nD τ) (st0_10 t) fullShare y10' ⊢ (dats m 0 c).leavesExact 10 t) :
    iprop(held c (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2)
          (iblk m c 0 t) (iblk m c 1 t) (iblk m c 2 t) (iblk m c 3 t) (iblk m c 4 t) (iblk m c 5 t) (iblk m c 6 t) (iblk m c 7 t) y8 y9 y10 X A S
        ∗ (dats m 0 c).owesAt () t.castSucc ∗ (∃ r, prngReg c r))
      ⊢ wp frame (wpE (defs₀ (F := F)) Variants.none c none) Set.univ (bodyAt0 t) (fun _ => bodyPost m c t) := by
  iintro ⟨H, Ho, Hg⟩
  iapply (hrun Set.univ (fun _ => bodyPost m c t))
  isplitl [H]; · iexact H
  unfold bodyPost held
  rw [show (dats m 0 c).owesAt () t.succ = (dats m 0 c).owesAt () t.castSucc from rfl,
    show (dats m 0 c).Φ t.succ = PhiS m c (t.val + 1) from rfl,
    leaves_in m c 0 t rfl, leaves_in m c 1 t rfl, leaves_in m c 2 t rfl, leaves_in m c 3 t rfl, leaves_in m c 4 t rfl, leaves_in m c 5 t rfl, leaves_in m c 6 t rfl, leaves_in m c 7 t rfl,
    after0_0, after0_1, after0_2, after0_3, after0_4, after0_5, after0_6, after0_7]
  unfold PhiS
  iintro ⟨H0, H1, H2, H3, H4, H5, H6, H7, H8, H9, H10, H11, H12, H13⟩
  isplitl [H11 H12 H13 Hg]
  · iexists X', A', S'
    isplitr; · ipureintro; exact hI
    isplitl [H11]; · iexact H11
    isplitl [H12]; · iexact H12
    isplitl [H13]; · iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply h8; iexact H8
  isplitl [H9]; · iapply h9; iexact H9
  iapply h10; iexact H10

/-! ### The scratch from point to point -/

theorem bx_val (t : Fin cfg0.N) : bx m c t.val = iblk m c 0 t := by unfold bx; rw [pt_val]
theorem be_val (t : Fin cfg0.N) : be m c t.val = iblk m c 1 t := by unfold be; rw [pt_val]
theorem bg_val (t : Fin cfg0.N) : bg m c t.val = iblk m c 2 t := by unfold bg; rw [pt_val]
theorem bu_val (t : Fin cfg0.N) : bu m c t.val = iblk m c 3 t := by unfold bu; rw [pt_val]
theorem bd_val (t : Fin cfg0.N) : bd m c t.val = iblk m c 4 t := by unfold bd; rw [pt_val]
theorem bγ_val (t : Fin cfg0.N) : bγ m c t.val = iblk m c 5 t := by unfold bγ; rw [pt_val]
theorem bβ_val (t : Fin cfg0.N) : bβ m c t.val = iblk m c 6 t := by unfold bβ; rw [pt_val]
theorem bw_val (t : Fin cfg0.N) : bw m c t.val = iblk m c 7 t := by unfold bw; rw [pt_val]

variable {m c} {n : ℕ} {X : Vec F S512x2048 .bf16} {A S : Vec F S512x2048 .f32}

/-- After the first block of columns of a row block. -/
theorem Inv.first (h0 : n % 11 = 0) (hn : n < 187) (h : Inv m c n X A S) :
    Inv m c (n + 1) (k0_pay10 (grid0.coords (pt n)) (bx m c n) (be m c n)) (k0_pay11 (grid0.coords (pt n)) (bx m c n) (be m c n) (bg m c n) (bu m c n) (bd m c n)) S where
  hX _ _ := by rw [show (n + 1) / 11 = n / 11 by omega, rows, show 11 * (n / 11) = n by omega]
  hA _ _ := by rw [show (n + 1) / 11 = n / 11 by omega, show (n + 1) % 11 - 1 = 0 by omega, sums, show 11 * (n / 11) = n by omega]
  hS hm := (h.hS (by omega)).trans (by rw [show (n + 1) / 11 = n / 11 by omega])

/-- After a block of columns between the first and the last. -/
theorem Inv.mid (h0 : n % 11 ≠ 0) (h1 : n % 11 ≠ 10) (hn : n < 187) (h : Inv m c n X A S) :
    Inv m c (n + 1) X (k0_pay16 A X (bg m c n) (bu m c n) (bd m c n)) S where
  hX _ _ := (h.hX h0 hn).trans (by rw [show (n + 1) / 11 = n / 11 by omega])
  hA _ _ := by
    rw [show (n + 1) / 11 = n / 11 by omega, show (n + 1) % 11 - 1 = (n % 11 - 1) + 1 by omega, sums, show 11 * (n / 11) + ((n % 11 - 1) + 1) = n by omega,
      ← h.hX h0 hn, ← h.hA h0 hn]
  hS hm := (h.hS (by omega)).trans (by rw [show (n + 1) / 11 = n / 11 by omega])

/-- After the last block of columns. -/
theorem Inv.last (h1 : n % 11 = 10) (hn : n < 187) (h : Inv m c n X A S) :
    Inv m c (n + 1) X A (k0_pay1 (BitVec.ofNat 32 (grid0.coords (pt n) 0).val) (bx m c n) (be m c n) A X (bg m c n) (bu m c n) (bd m c n)) where
  hX h _ := absurd h (by omega)
  hA h _ := absurd h (by omega)
  hS hm := by
    have hX := h.hX (by omega) hn
    have hA := h.hA (by omega) hn
    rw [show n % 11 - 1 = 9 by omega] at hA
    rw [show min ((n + 1) / 11 - 1) 16 = n / 11 by omega, full, show 11 * (n / 11) + 10 = n by omega, ← hX, ← hA]

/-- In the grid's last row. -/
theorem Inv.rest (hn : 187 ≤ n) (hN : n < 198) (h : Inv m c n X A S) : Inv m c (n + 1) X A S where
  hX _ h := absurd h (by omega)
  hA _ h := absurd h (by omega)
  hS hm := (h.hS (by omega)).trans (by rw [show min ((n + 1) / 11 - 1) 16 = min (n / 11 - 1) 16 by omega])

variable (m c)

theorem keep8 (t : Fin cfg0.N) (h : ¬(t.val % 11 = 0 ∧ 11 ≤ t.val ∧ t.val ≤ 187)) (d) :
    owns (c : Thread nD τ) (st0_8 t) fullShare ((dats m 0 c).before 8 t d) ⊢ (dats m 0 c).leavesExact 8 t :=
  keep m c 8 t ((idle8 t).trans (by rw [decide_eq_false h]; rfl)) (before8 m c t) d

theorem keep9 (t : Fin cfg0.N) (h : ¬(t.val % 11 = 0 ∧ 11 ≤ t.val ∧ t.val ≤ 187)) (d) :
    owns (c : Thread nD τ) (st0_9 t) fullShare ((dats m 0 c).before 9 t d) ⊢ (dats m 0 c).leavesExact 9 t :=
  keep m c 9 t ((idle9 t).trans (by rw [decide_eq_false h]; rfl)) (before9 m c t) d

theorem store8 (t : Fin cfg0.N) (h : t.val % 11 = 0 ∧ 11 ≤ t.val ∧ t.val ≤ 187) (hS : S = full m c (min (t.val / 11 - 1) 16)) :
    owns (c : Thread nD τ) (st0_8 t) fullShare (k0_pay14 S (iblk m c 5 t) (iblk m c 6 t)) ⊢ (dats m 0 c).leavesExact 8 t := by
  rw [leaves_in m c 8 t ((idle8 t).trans (by rw [decide_eq_true h]; rfl)), after0_8, outMain, show 11 * (t.val / 11 - 1 + 1) = t.val by omega,
    bγ_val, bβ_val, hS, show min (t.val / 11 - 1) 16 = t.val / 11 - 1 by omega]

theorem store9 (t : Fin cfg0.N) (h : t.val % 11 = 0 ∧ 11 ≤ t.val ∧ t.val ≤ 187) (hS : S = full m c (min (t.val / 11 - 1) 16)) :
    owns (c : Thread nD τ) (st0_9 t) fullShare (k0_pay15 S (iblk m c 5 t) (iblk m c 6 t)) ⊢ (dats m 0 c).leavesExact 9 t := by
  rw [leaves_in m c 9 t ((idle9 t).trans (by rw [decide_eq_true h]; rfl)), after0_9, outNarrow, show 11 * (t.val / 11 - 1 + 1) = t.val by omega,
    bγ_val, bβ_val, hS, show min (t.val / 11 - 1) 16 = t.val / 11 - 1 by omega]

/-- The copy at a point, made or kept. -/
theorem copy (t : Fin cfg0.N) (d) : ∃ z : Vec F S96x2048 .bf16,
    (copyOf (grid0.coords t) ∧ z = k0_pay8 (iblk m c 7 t) ∨ ¬copyOf (grid0.coords t) ∧ z = (dats m 0 c).before 10 t d)
    ∧ (owns (c : Thread nD τ) (st0_10 t) fullShare z ⊢ (dats m 0 c).leavesExact 10 t) := by
  by_cases h : t.val < 133
  · refine ⟨_, .inl ⟨(copyOf_iff t).2 h, rfl⟩, ?_⟩
    rw [leaves_in m c 10 t ((idle10 t).trans (by rw [decide_eq_true h]; rfl)), after0_10, show min t.val 132 = t.val by omega, copied, bw_val]
  · exact ⟨_, .inr ⟨fun hc => h ((copyOf_iff t).1 hc), rfl⟩,
      keep m c 10 t ((idle10 t).trans (by rw [decide_eq_false h]; rfl)) (fun _ d => before10 m c t (by omega) d) d⟩

/-- The body's triple at each point. -/
theorem sound_body (t : Fin cfg0.N) :
    bodyPre m c t ⊢ wp frame (wpE (defs₀ (F := F)) Variants.none c none) Set.univ (bodyAt0 t) (fun _ => bodyPost m c t) := by
  have hN : t.val < 198 := lt_of_lt_of_eq t.isLt (show cfg0.N = 198 from N_0)
  unfold bodyPre
  rw [show (dats m 0 c).Φ t.castSucc = PhiS m c t.val from rfl]
  unfold PhiS
  iintro ⟨⟨%X, %A, %S, %hI, HX, HA, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0, before0_1, before0_2, before0_3, before0_4, before0_5, before0_6, before0_7]
  obtain ⟨z, hz, h10⟩ := copy m c t d10
  have key : iprop(held c (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2)
          (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) X A S
        ∗ (dats m 0 c).owesAt () t.castSucc ∗ (∃ r, prngReg c r)) ⊢ wp frame (wpE (defs₀ (F := F)) Variants.none c none) Set.univ (bodyAt0 t) (fun _ => bodyPost m c t) := by
    by_cases h0 : t.val = 0
    · exact point m c t _ _ _ _ _ _ _ _ _ _ _ _
        (run_first c (grid0.coords t) _ _ _ _ _ _ _ _ _ _ _ _ _ _ _ _ _ _ _ _ _ _ _ _ _ _ _ _ _ _ _ _ _ _ _ _ _ _ _ _ _ _ hz ((firstOf_iff t).2 h0) (fun h => absurd ((nextOf_iff t).1 h) (by omega)) (fun h => absurd ((pastOf_iff t).1 h) (by omega)) (fun h => absurd ((midOf_iff t).1 h) (by omega)) (fun h => absurd ((lastOf_iff t).1 h) (by omega)))
        (by have := hI.first (by omega) (by omega); rw [bx_val, be_val, bg_val, bu_val, bd_val, pt_val] at this; exact this)
        (keep8 m c t (by omega) d8) (keep9 m c t (by omega) d9) h10
    by_cases h1 : t.val % 11 = 0 ∧ 11 ≤ t.val ∧ t.val < 187
    · exact point m c t _ _ _ _ _ _ _ _ _ _ _ _
        (run_next c (grid0.coords t) _ _ _ _ _ _ _ _ _ _ _ _ _ _ _ _ _ _ _ _ _ _ _ _ _ _ _ _ _ _ _ _ _ _ _ _ _ _ _ _ _ _ hz (fun h => absurd ((firstOf_iff t).1 h) (by omega)) ((nextOf_iff t).2 h1) (fun h => absurd ((pastOf_iff t).1 h) (by omega)) (fun h => absurd ((midOf_iff t).1 h) (by omega)) (fun h => absurd ((lastOf_iff t).1 h) (by omega)))
        (by have := hI.first (by omega) (by omega); rw [bx_val, be_val, bg_val, bu_val, bd_val, pt_val] at this; exact this)
        (store8 m c t (by omega) (hI.hS (by omega))) (store9 m c t (by omega) (hI.hS (by omega))) h10
    by_cases h2 : t.val = 187
    · exact point m c t _ _ _ _ _ _ _ _ _ _ _ _
        (run_past c (grid0.coords t) _ _ _ _ _ _ _ _ _ _ _ _ _ _ _ _ _ _ _ _ _ _ _ _ _ _ _ _ _ _ _ _ _ _ _ _ _ _ _ _ _ _ hz (fun h => absurd ((firstOf_iff t).1 h) (by omega)) (fun h => absurd ((nextOf_iff t).1 h) (by omega)) ((pastOf_iff t).2 h2) (fun h => absurd ((midOf_iff t).1 h) (by omega)) (fun h => absurd ((lastOf_iff t).1 h) (by omega)))
        (hI.rest (by omega) hN)
        (store8 m c t (by omega) (hI.hS (by omega))) (store9 m c t (by omega) (hI.hS (by omega))) h10
    by_cases h3 : t.val < 187 ∧ t.val % 11 ≠ 0 ∧ t.val % 11 ≠ 10
    · exact point m c t _ _ _ _ _ _ _ _ _ _ _ _
        (run_mid c (grid0.coords t) _ _ _ _ _ _ _ _ _ _ _ _ _ _ _ _ _ _ _ _ _ _ _ _ _ _ _ _ _ _ _ _ _ _ _ _ _ _ _ _ _ _ hz (fun h => absurd ((firstOf_iff t).1 h) (by omega)) (fun h => absurd ((nextOf_iff t).1 h) (by omega)) (fun h => absurd ((pastOf_iff t).1 h) (by omega)) ((midOf_iff t).2 h3) (fun h => absurd ((lastOf_iff t).1 h) (by omega)))
        (by have := hI.mid (by omega) (by omega) (by omega); rw [bg_val, bu_val, bd_val] at this; exact this)
        (keep8 m c t (by omega) d8) (keep9 m c t (by omega) d9) h10
    by_cases h4 : t.val < 187 ∧ t.val % 11 = 10
    · exact point m c t _ _ _ _ _ _ _ _ _ _ _ _
        (run_last c (grid0.coords t) _ _ _ _ _ _ _ _ _ _ _ _ _ _ _ _ _ _ _ _ _ _ _ _ _ _ _ _ _ _ _ _ _ _ _ _ _ _ _ _ _ _ hz (fun h => absurd ((firstOf_iff t).1 h) (by omega)) (fun h => absurd ((nextOf_iff t).1 h) (by omega)) (fun h => absurd ((pastOf_iff t).1 h) (by omega)) (fun h => absurd ((midOf_iff t).1 h) (by omega)) ((lastOf_iff t).2 h4))
        (by have := hI.last (by omega) (by omega); rw [bx_val, be_val, bg_val, bu_val, bd_val, pt_val] at this; exact this)
        (keep8 m c t (by omega) d8) (keep9 m c t (by omega) d9) h10
    exact point m c t _ _ _ _ _ _ _ _ _ _ _ _
      (run_none c (grid0.coords t) _ _ _ _ _ _ _ _ _ _ _ _ _ _ _ _ _ _ _ _ _ _ _ _ _ _ _ _ _ _ _ _ _ _ _ _ _ _ _ _ _ _ hz (fun h => absurd ((firstOf_iff t).1 h) (by omega)) (fun h => absurd ((nextOf_iff t).1 h) (by omega)) (fun h => absurd ((pastOf_iff t).1 h) (by omega)) (fun h => absurd ((midOf_iff t).1 h) (by omega)) (fun h => absurd ((lastOf_iff t).1 h) (by omega)))
      (hI.rest (by omega) hN) (keep8 m c t (by omega) d8) (keep9 m c t (by omega) d9) h10
  iapply key
  unfold held
  isplitl [H0 H1 H2 H3 H4 H5 H6 H7 H8 H9 H10 HX HA HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    isplitl [HA]; · iexact HA
    iexact HS
  isplitl [Ho]; · iexact Ho
  iexact Hg

/-! ## The launch -/

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-- What the pipeline's region is entered with. -/
theorem entered :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem hin : Pipeline.ΦA spec0 c ⊢ (dats m 0 c).Φ 0 := by
  rw [show (dats m 0 c).Φ 0 = PhiS m c 0 from rfl, entered]
  unfold PhiS
  iintro ⟨⟨⟨%X, HX⟩, ⟨%A, HA⟩, ⟨%S, HS⟩⟩, Hg⟩
  iexists X, A, S
  isplitr; · ipureintro; exact ⟨fun h => absurd rfl h, fun h => absurd rfl h, fun h => absurd h (by omega)⟩
  isplitl [HX]; · iexact HX
  isplitl [HA]; · iexact HA
  isplitl [HS]; · iexact HS
  iexact Hg

theorem hout : (dats m 0 c).Φ (Fin.last cfg0.N) ⊢ Pipeline.ΦA spec0 c := by
  rw [show (dats m 0 c).Φ (Fin.last cfg0.N) = PhiS m c cfg0.N from rfl, entered]
  unfold PhiS
  iintro ⟨%X, %A, %S, %hI, HX, HA, HS, Hg⟩
  isplitl [HX HA HS]
  · isplitl [HX]; · iexists X; iexact HX
    isplitl [HA]; · iexists A; iexact HA
    iexists S; iexact HS
  iexact Hg

set_option backward.isDefEq.respectTransparency.types false in
/-- Every run ends with the pipeline's arrays as its proof data say, and with every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnInIdeal.Body

end

end
-- ==== Proof.FfnIn.Spec.lean ====
/- What the first feed-forward kernel computes: the rows it reads put one after another, and the second result's copy of
   a weight. What becomes of the rows is the other feed-forward half's: `Ffn.out`. -/
module

public import proofs.«01_k».proof.Proof.FfnOut.Spec
public import proofs.«01_k».proof.Proof.Gen.FfnInIdeal

@[expose] public section

set_option maxRecDepth 16384

noncomputable section

namespace Cert.First

open Cert.FfnInIdeal Idealize.ShloMosaic

/-- Entry `(a, k)` of the rows: the frames first, the samples after them, and then the learned rows behind their padding,
    once for each sequence. -/
def entry (x : FVec Ideal S4x2048x2048 .f32) (s : FVec Ideal S16x16x2048 .f32) (t : FVec Ideal S16x2048 .f32) (a : Fin 8704) (k : Fin 2048) : EReal :=
  if a.val < 8192 then x (ix3 ⟨a.val / 2048 % 4, by omega⟩ ⟨a.val % 2048, by omega⟩ k)
  else if a.val < 8448 then s (ix3 ⟨(a.val - 8192) / 16 % 16, by omega⟩ ⟨(a.val - 8192) % 16, by omega⟩ k)
  else if (a.val - 8448) % 64 < 48 then 0
  else t (ix2 ⟨((a.val - 8448) % 64 - 48) % 16, by omega⟩ k)

/-- The rows. -/
def joined (x : FVec Ideal S4x2048x2048 .f32) (s : FVec Ideal S16x16x2048 .f32) (t : FVec Ideal S16x2048 .f32) : FVec Ideal S8704x2048 .f32 :=
  fun i => entry x s t (i 0) (i 1)

/-- The rows after the network and the normalisation. -/
def out (x : FVec Ideal S4x2048x2048 .f32) (s : FVec Ideal S16x16x2048 .f32) (t : FVec Ideal S16x2048 .f32) (w : FVec Ideal S1x2048x11264 .f32)
    (d : FVec Ideal S1x5632x2048 .f32) (γ β : FVec Ideal S1x2048 .f32) : FVec Ideal S8704x2048 .f32 :=
  fun i => Ffn.out (joined x s t) w d γ β (i 0) (i 1)

/-- The same, in the narrow format. -/
def outNarrow (x : FVec Ideal S4x2048x2048 .f32) (s : FVec Ideal S16x16x2048 .f32) (t : FVec Ideal S16x2048 .f32) (w : FVec Ideal S1x2048x11264 .f32)
    (d : FVec Ideal S1x5632x2048 .f32) (γ β : FVec Ideal S1x2048 .f32) : FVec Ideal S8704x2048 .bf16 :=
  fun i => Ffn.out (joined x s t) w d γ β (i 0) (i 1)

/-- The weight transposed. -/
def turned (p : FVec Ideal S1x2048x12768 .f32) : FVec Ideal S12768x2048 .bf16 := fun i => p (ix3 0 (i 1) (i 0))

/-- Four copies of 64 rows, after 256 rows: which of them a row is. -/
theorem entry_of_learned (x : FVec Ideal S4x2048x2048 .f32) (s : FVec Ideal S16x16x2048 .f32) (t : FVec Ideal S16x2048 .f32) (a : Fin 8704) (k : Fin 2048)
    (r : Fin 16) (h : 8448 ≤ a.val) (hr : (a.val - 8448) % 64 = 48 + r.val) : entry x s t a k = t (ix2 r k) := by
  unfold entry
  rw [if_neg (by omega), if_neg (by omega), if_neg (by omega)]
  exact congrArg (fun r => t (ix2 r k)) (Fin.ext (by show ((a.val - 8448) % 64 - 48) % 16 = r.val; omega))

theorem entry_of_pad (x : FVec Ideal S4x2048x2048 .f32) (s : FVec Ideal S16x16x2048 .f32) (t : FVec Ideal S16x2048 .f32) (a : Fin 8704) (k : Fin 2048)
    (h : 8448 ≤ a.val) (hr : (a.val - 8448) % 64 < 48) : entry x s t a k = 0 := by
  unfold entry
  rw [if_neg (by omega), if_neg (by omega), if_pos hr]

theorem entry_of_sample (x : FVec Ideal S4x2048x2048 .f32) (s : FVec Ideal S16x16x2048 .f32) (t : FVec Ideal S16x2048 .f32) (a : Fin 8704) (k : Fin 2048)
    (h : 8192 ≤ a.val) (hs : a.val < 8448) : entry x s t a k = s (ix3 ⟨(a.val - 8192) / 16, by omega⟩ ⟨(a.val - 8192) % 16, by omega⟩ k) := by
  unfold entry
  rw [if_neg (by omega), if_pos hs]
  exact congrArg (fun r => s (ix3 r _ k)) (Fin.ext (by show (a.val - 8192) / 16 % 16 = (a.val - 8192) / 16; omega))

theorem entry_of_frame (x : FVec Ideal S4x2048x2048 .f32) (s : FVec Ideal S16x16x2048 .f32) (t : FVec Ideal S16x2048 .f32) (a : Fin 8704) (k : Fin 2048)
    (h : a.val < 8192) : entry x s t a k = x (ix3 ⟨a.val / 2048, by omega⟩ ⟨a.val % 2048, by omega⟩ k) := by
  unfold entry
  rw [if_pos h]
  exact congrArg (fun r => x (ix3 r _ k)) (Fin.ext (by show a.val / 2048 % 4 = a.val / 2048; omega))

end Cert.First

end

end
-- ==== Proof.FfnIn.Kernel.lean ====
/- The first feed-forward kernel's results: each block of rows summed over the blocks of hidden columns is the
   network's sum over all of them, normalised, and the blocks of the weight are the weight transposed. -/
module

public import proofs.«01_k».proof.Proof.FfnIn.Frame
public import proofs.«01_k».proof.Proof.FfnIn.Spec
public import proofs.«01_k».proof.Proof.FfnOut.Kernel
public import Idealize.ShloMosaic.Lib.Pipeline.Value

@[expose] public section

set_option maxRecDepth 16384

noncomputable section

namespace Cert.First

open Cert.FfnInIdeal Cert.FfnInIdeal.Gen Cert.FfnInIdeal.Body Idealize.ShloMosaic Idealize.ShloMosaic.TcCoe Idealize.SL.Sem
open Idealize.ShloMosaic.Pipeline (Dat)

variable (m : (ℓ : Loc nD τ sig) → Buf (Elt Ideal) ℓ) (c : Dev nD)

/-! ## The body's arithmetic, entry by entry -/

/-- The block of rows that the body takes at row `b` of the grid: of the frames, or of the other rows. -/
def loaded (b : BitVec 32) (x e : Vec Ideal S512x2048 .f32) (r : Fin 512) (k : Fin 2048) : EReal :=
  if Scalar.cmpi .slt b 16#32 = 1#1 then x (ix2 r k) else e (ix2 r k)

theorem pay9_at (i : grid0.Coords) (x e : Vec Ideal S512x2048 .f32) (r : Fin 512) (k : Fin 2048) :
    (k0_pay9 (F := Ideal) i x e (ix2 r k) : EReal) = loaded (BitVec.ofNat 32 (i 0).val) x e r k := by
  unfold k0_pay9 loaded
  rcases (by decide : ∀ b : BitVec 1, b = 0#1 ∨ b = 1#1) (Scalar.cmpi .slt (BitVec.ofNat 32 (i 0).val) 16#32) with hc | hc
  · rw [if_neg (by rw [hc]; decide)]
    simp only [hc, Scalar.select]
    pointwise
    rw [if_neg (by decide)]
  · rw [if_pos hc]
    simp only [hc, Scalar.select]
    pointwise
    rw [if_pos (by decide)]

theorem pay10_at (i : grid0.Coords) (x e : Vec Ideal S512x2048 .f32) (r : Fin 512) (k : Fin 2048) :
    (k0_pay10 (F := Ideal) i x e (ix2 r k) : EReal) = loaded (BitVec.ofNat 32 (i 0).val) x e r k := by
  rw [← pay9_at]
  unfold k0_pay10
  pointwise

/-- The first block's part, of rows in the narrow format. -/
theorem pay11_of (i : grid0.Coords) (x e : Vec Ideal S512x2048 .f32) (X : Vec Ideal S512x2048 .bf16) (hX : k0_pay9 (F := Ideal) i x e = X)
    (g u : Vec Ideal S2048x512 .bf16) (d : Vec Ideal S512x2048 .bf16) (r : Fin 512) (q : Fin 2048) :
    k0_pay11 (F := Ideal) i x e g u d (ix2 r q) = Ffn.part (fun k => X (ix2 r k)) g u d q := by
  unfold k0_pay11 Ffn.part Ffn.hidden
  rw [hX]
  pointwise

theorem pay11_at (i : grid0.Coords) (x e : Vec Ideal S512x2048 .f32) (g u : Vec Ideal S2048x512 .bf16) (d : Vec Ideal S512x2048 .bf16) (r : Fin 512) (q : Fin 2048) :
    k0_pay11 (F := Ideal) i x e g u d (ix2 r q) = Ffn.part (loaded (BitVec.ofNat 32 (i 0).val) x e r) g u d q :=
  (pay11_of i x e _ rfl g u d r q).trans (congrArg (fun X => Ffn.part X g u d q) (funext fun k => pay9_at i x e r k))

theorem pay16_at (A : Vec Ideal S512x2048 .f32) (X : Vec Ideal S512x2048 .bf16) (g u : Vec Ideal S2048x512 .bf16) (d : Vec Ideal S512x2048 .bf16) (r : Fin 512) (q : Fin 2048) :
    k0_pay16 (F := Ideal) A X g u d (ix2 r q) = A (ix2 r q) + Ffn.part (fun k => X (ix2 r k)) g u d q := by
  unfold k0_pay16 Ffn.part Ffn.hidden
  pointwise

theorem pay1_at (b : BitVec 32) (x e A : Vec Ideal S512x2048 .f32) (X : Vec Ideal S512x2048 .bf16) (g u : Vec Ideal S2048x512 .bf16) (d : Vec Ideal S512x2048 .bf16) (r : Fin 512) (q : Fin 2048) :
    k0_pay1 (F := Ideal) b x e A X g u d (ix2 r q)
      = Ideal.ofBits .f32 0x3F9837F0#32 * loaded b x e r q + Ideal.ofBits .f32 0x3F000000#32 * (A (ix2 r q) + Ffn.part (fun k => X (ix2 r k)) g u d q) := by
  unfold k0_pay1 loaded Ffn.part Ffn.hidden
  rcases (by decide : ∀ b : BitVec 1, b = 0#1 ∨ b = 1#1) (Scalar.cmpi .slt b 16#32) with hc | hc
  · rw [if_neg (by rw [hc]; decide)]
    simp only [hc, Scalar.select]
    pointwise
    rw [if_neg (by decide)]
  · rw [if_pos hc]
    simp only [hc, Scalar.select]
    pointwise
    rw [if_pos (by decide)]

theorem pay14_at (s : Vec Ideal S512x2048 .f32) (γ β : Vec Ideal S1x2048 .f32) (r : Fin 512) (q : Fin 2048) :
    k0_pay14 (F := Ideal) s γ β (ix2 r q)
      = Ffn.norm (fun q => s (ix2 r q)) (fun q => γ (ix2 0 q)) (fun q => β (ix2 0 q)) q := by
  unfold k0_pay14 Ffn.norm Ffn.mean
  pointwise

theorem pay15_at (s : Vec Ideal S512x2048 .f32) (γ β : Vec Ideal S1x2048 .f32) (r : Fin 512) (q : Fin 2048) :
    (k0_pay15 (F := Ideal) s γ β (ix2 r q) : EReal)
      = Ffn.norm (fun q => s (ix2 r q)) (fun q => γ (ix2 0 q)) (fun q => β (ix2 0 q)) q :=
  pay14_at s γ β r q

theorem pay8_at (p : Vec Ideal S96x2048 .f32) (r : Fin 96) (k : Fin 2048) : (k0_pay8 (F := Ideal) p (ix2 r k) : EReal) = p (ix2 r k) := by
  unfold k0_pay8
  pointwise

/-! ## The blocks it reads -/

/-- The block that each window is at, point by point. -/
theorem idx : ∀ t : Fin grid0.N, win0_0.index t = ![min (t.val / 11) 15, 0] ∧ win0_1.index t = ![0, 0]
    ∧ (t.val < 187 → win0_2.index t = ![0, t.val % 11] ∧ win0_3.index t = ![0, 11 + t.val % 11] ∧ win0_4.index t = ![t.val % 11, 0])
    ∧ win0_5.index t = ![0, 0] ∧ win0_6.index t = ![0, 0] ∧ win0_7.index t = ![min t.val 132, 0] := by
  decide +kernel

theorem idx_out : ∀ t : Fin grid0.N, win0_8.index t = ![t.val / 11 - 1, 0] ∧ win0_9.index t = ![t.val / 11 - 1, 0] ∧ win0_10.index t = ![min t.val 132, 0] := by
  decide +kernel

/-- Which rows of the grid take the frames. -/
theorem takes : ∀ t : Fin grid0.N, Scalar.cmpi .slt (BitVec.ofNat 32 (grid0.coords t 0).val) 16#32 = 1#1 ↔ t.val < 176 := by
  decide +kernel

/-- The arrays as the kernel reads them. -/
theorem x_entry (a : Fin 8192) (k : Fin 2048) : (V m c main_v4 (ix2 a k) : EReal) = entry (m ((c : Thread nD τ).loc main_arg0)) (m ((c : Thread nD τ).loc main_arg1)) (m ((c : Thread nD τ).loc main_arg2)) ⟨a.val, by omega⟩ k := by
  rw [entry_of_frame _ _ _ _ _ a.isLt]
  entry_read
  pointwise

/-- The learned rows behind their padding. -/
def padded (t : FVec Ideal S16x2048 .f32) : FVec Ideal S64x2048 .f32 :=
  concatenate S64x2048 0 [⟨S48x2048, broadcastInDim S48x2048 ![] bcast_S_S48x2048 (constant S_ .f32 0x00000000#32 : FVec Ideal S_ .f32)⟩, ⟨S16x2048, t⟩]
    concatenates_S48x2048_S16x2048_S64x2048_d0

/-- The rows that are no frame's, as the kernel takes them. -/
def others (s : FVec Ideal S16x16x2048 .f32) (h : FVec Ideal S64x2048 .f32) : FVec Ideal S512x2048 .f32 :=
  concatenate S512x2048 0 [⟨S256x2048, shapeCast S256x2048 s shapeCasts_S16x16x2048_S256x2048⟩, ⟨S64x2048, h⟩, ⟨S64x2048, h⟩, ⟨S64x2048, h⟩, ⟨S64x2048, h⟩]
    concatenates_S256x2048_S64x2048_S64x2048_S64x2048_S64x2048_S512x2048_d0

theorem others_eq : (V m c main_v3 : FVec Ideal S512x2048 .f32) = others (m ((c : Thread nD τ).loc main_arg1)) (padded (m ((c : Thread nD τ).loc main_arg2))) := by
  unfold_abbrev_sides
  simp only [StableHlo.after_cons, StableHlo.after_nil]
  after_results_simp
  try dsimp only [Matrix.cons_val]
  try after_results_simp
  rfl

theorem padded_at (t : FVec Ideal S16x2048 .f32) (r : Fin 64) (k : Fin 2048) :
    (padded t (ix2 r k) : EReal) = if h : r.val < 48 then 0 else t (ix2 ⟨r.val - 48, by omega⟩ k) := by
  unfold padded
  pointwise

theorem others_at (x : FVec Ideal S4x2048x2048 .f32) (s : FVec Ideal S16x16x2048 .f32) (t : FVec Ideal S16x2048 .f32) (r : Fin 512) (k : Fin 2048) :
    (others s (padded t) (ix2 r k) : EReal) = entry x s t ⟨8192 + r.val, by omega⟩ k := by
  have learned : ∀ l : Fin 64, 256 ≤ r.val → (r.val - 256) % 64 = l.val → (padded t (ix2 l k) : EReal) = entry x s t ⟨8192 + r.val, by omega⟩ k := fun l h hl => by
    rw [padded_at]
    by_cases h1 : l.val < 48
    · rw [dif_pos h1, entry_of_pad x s t _ k (by show 8448 ≤ 8192 + r.val; omega) (by show (8192 + r.val - 8448) % 64 < 48; omega)]
    · rw [dif_neg h1, entry_of_learned x s t _ k ⟨l.val - 48, by omega⟩ (by show 8448 ≤ 8192 + r.val; omega) (by show (8192 + r.val - 8448) % 64 = 48 + (l.val - 48); omega)]
  unfold others
  pointwise
  by_cases h2 : r.val < 256
  · rw [dif_pos h2, entry_of_sample x s t _ k (by show 8192 ≤ 8192 + r.val; omega) (by show 8192 + r.val < 8448; omega)]
    simp only [Nat.add_sub_cancel_left]
  rw [dif_neg h2]
  by_cases h3 : r.val - 256 < 64
  · rw [dif_pos h3]; exact learned _ (by omega) (by show _ = r.val - 256; omega)
  rw [dif_neg h3]
  by_cases h4 : r.val - 256 - 64 < 64
  · rw [dif_pos h4]; exact learned _ (by omega) (by show _ = r.val - 256 - 64; omega)
  rw [dif_neg h4]
  by_cases h5 : r.val - 256 - 64 - 64 < 64
  · rw [dif_pos h5]; exact learned _ (by omega) (by show _ = r.val - 256 - 64 - 64; omega)
  rw [dif_neg h5]
  exact learned _ (by omega) (by show _ = r.val - 256 - 64 - 64 - 64; omega)

theorem e_entry (r : Fin 512) (k : Fin 2048) : (V m c main_v3 (ix2 r k) : EReal) = entry (m ((c : Thread nD τ).loc main_arg0)) (m ((c : Thread nD τ).loc main_arg1)) (m ((c : Thread nD τ).loc main_arg2)) ⟨8192 + r.val, by omega⟩ k :=
  (congrFun (others_eq m c) (ix2 r k)).trans (others_at (m ((c : Thread nD τ).loc main_arg0)) (m ((c : Thread nD τ).loc main_arg1)) (m ((c : Thread nD τ).loc main_arg2)) r k)

theorem w_entry (k : Fin 2048) (j : Fin 11264) : (V m c main_v6 (ix2 k j) : EReal) = m ((c : Thread nD τ).loc main_arg3) (ix3 0 k j) := by
  entry_read
  pointwise

theorem d_entry (j : Fin 5632) (q : Fin 2048) : (V m c main_v8 (ix2 j q) : EReal) = m ((c : Thread nD τ).loc main_arg4) (ix3 0 j q) := by
  entry_read
  pointwise

theorem γ_entry (q : Fin 2048) : (V m c main_v10 (ix2 0 q) : EReal) = m ((c : Thread nD τ).loc main_arg5) (ix2 0 q) := by
  entry_read
  pointwise

theorem β_entry (q : Fin 2048) : (V m c main_v12 (ix2 0 q) : EReal) = m ((c : Thread nD τ).loc main_arg6) (ix2 0 q) := by
  entry_read
  pointwise

theorem p_entry (a : Fin 12768) (k : Fin 2048) : (V m c main_v14 (ix2 a k) : EReal) = m ((c : Thread nD τ).loc main_arg7) (ix3 0 k a) := by
  entry_read
  pointwise

theorem x_block (t : Fin cfg0.N) (r : Fin 512) (k : Fin 2048) (a : Fin 8192) (h : a.val = min (t.val / 11) 15 * 512 + r.val) :
    (iblk m c 0 t (ix2 r k) : EReal) = V m c main_v4 (ix2 a k) := by
  blk_ext [iblk, (idx t).1, h]

theorem e_block (t : Fin cfg0.N) (r : Fin 512) (k : Fin 2048) : (iblk m c 1 t (ix2 r k) : EReal) = V m c main_v3 (ix2 r k) := by
  blk_ext [iblk, (idx t).2.1]

theorem g_block (t : Fin cfg0.N) (ht : t.val < 187) (k : Fin 2048) (l : Fin 512) (j : Fin 11264) (h : j.val = t.val % 11 * 512 + l.val) :
    (iblk m c 2 t (ix2 k l) : EReal) = V m c main_v6 (ix2 k j) := by
  blk_ext [iblk, ((idx t).2.2.1 ht).1, h]

theorem u_block (t : Fin cfg0.N) (ht : t.val < 187) (k : Fin 2048) (l : Fin 512) (j : Fin 11264) (h : j.val = (11 + t.val % 11) * 512 + l.val) :
    (iblk m c 3 t (ix2 k l) : EReal) = V m c main_v6 (ix2 k j) := by
  blk_ext [iblk, ((idx t).2.2.1 ht).2.1, h]

theorem d_block (t : Fin cfg0.N) (ht : t.val < 187) (l : Fin 512) (q : Fin 2048) (j : Fin 5632) (h : j.val = t.val % 11 * 512 + l.val) :
    (iblk m c 4 t (ix2 l q) : EReal) = V m c main_v8 (ix2 j q) := by
  blk_ext [iblk, ((idx t).2.2.1 ht).2.2, h]

theorem γ_block (t : Fin cfg0.N) (q : Fin 2048) : (iblk m c 5 t (ix2 0 q) : EReal) = V m c main_v10 (ix2 0 q) := by
  blk_ext [iblk, (idx t).2.2.2.1]

theorem β_block (t : Fin cfg0.N) (q : Fin 2048) : (iblk m c 6 t (ix2 0 q) : EReal) = V m c main_v12 (ix2 0 q) := by
  blk_ext [iblk, (idx t).2.2.2.2.1]

theorem p_block (t : Fin cfg0.N) (r : Fin 96) (k : Fin 2048) (a : Fin 12768) (h : a.val = min t.val 132 * 96 + r.val) :
    (iblk m c 7 t (ix2 r k) : EReal) = V m c main_v14 (ix2 a k) := by
  blk_ext [iblk, (idx t).2.2.2.2.2, h]

/-! ## The sum over the blocks -/

/-- Row `a` of the rows. -/
abbrev row (a : Fin 8704) : Fin 2048 → EReal := fun k => entry (m ((c : Thread nD τ).loc main_arg0)) (m ((c : Thread nD τ).loc main_arg1)) (m ((c : Thread nD τ).loc main_arg2)) a k

/-- Hidden column `j`'s part of row `a`'s result at column `q`. -/
abbrev termAt (a : Fin 8704) (q : Fin 2048) (j : ℕ) : EReal := Ffn.term (m ((c : Thread nD τ).loc main_arg3)) (m ((c : Thread nD τ).loc main_arg4)) (row m c a) q j

theorem pt_of (n : ℕ) (h : n < 198) : (pt n).val = n := Nat.mod_eq_of_lt h

/-- A block of rows at any point of its row of the grid. -/
theorem loaded_at (i f : ℕ) (hi : i ≤ 16) (hf : f ≤ 10) (r : Fin 512) (k : Fin 2048) (a : Fin 8704) (h : a.val = i * 512 + r.val) :
    loaded (BitVec.ofNat 32 (grid0.coords (pt (11 * i + f)) 0).val) (bx m c (11 * i + f)) (be m c (11 * i + f)) r k = row m c a k := by
  have hp : (pt (11 * i + f)).val = 11 * i + f := pt_of _ (by omega)
  have hr := r.isLt
  unfold loaded
  by_cases h16 : i < 16
  · rw [if_pos ((takes _).2 (by omega))]
    exact (x_block m c _ r k ⟨a.val, by omega⟩ (by rw [hp, show min ((11 * i + f) / 11) 15 = i by omega]; exact h)).trans (x_entry m c _ k)
  · rw [if_neg (fun hc => by have := (takes _).1 hc; omega)]
    exact (e_block m c _ r k).trans ((e_entry m c r k).trans (congrArg (fun a => entry (m ((c : Thread nD τ).loc main_arg0)) (m ((c : Thread nD τ).loc main_arg1)) (m ((c : Thread nD τ).loc main_arg2)) a k) (Fin.ext (by show 8192 + r.val = a.val; omega))))

theorem rows_at (i : ℕ) (hi : i ≤ 16) (r : Fin 512) (k : Fin 2048) (a : Fin 8704) (h : a.val = i * 512 + r.val) :
    (Body.rows m c i (ix2 r k) : EReal) = row m c a k :=
  (pay10_at _ _ _ r k).trans (loaded_at m c i 0 hi (by omega) r k a h)

/-- A block of hidden columns' part, as the network's. -/
theorem part_at (i f : ℕ) (hi : i ≤ 16) (hf : f ≤ 10) (a : Fin 8704) (x : Fin 2048 → EReal) (hx : x = row m c a) (q : Fin 2048) :
    Ffn.part x (bg m c (11 * i + f)) (bu m c (11 * i + f)) (bd m c (11 * i + f)) q = ∑ l : Fin 512, termAt m c a q (f * 512 + l.val) := by
  subst hx
  have hp : (pt (11 * i + f)).val = 11 * i + f := pt_of _ (by omega)
  have hm : (11 * i + f) % 11 = f := by omega
  unfold Ffn.part
  refine Finset.sum_congr rfl fun l _ => ?_
  have hl := l.isLt
  unfold termAt Ffn.term
  rw [dif_pos (by omega)]
  refine congrArg₂ (· * ·) (congrArg₂ (Ffn.hidden _) (funext fun k => ?_) (funext fun k => ?_)) ?_
  · exact (g_block m c _ (by rw [hp]; omega) k l ⟨f * 512 + l.val, by omega⟩ (by rw [hp, hm])).trans (w_entry m c k _)
  · exact (u_block m c _ (by rw [hp]; omega) k l ⟨5632 + (f * 512 + l.val), by omega⟩ (by rw [hp, hm]; show 5632 + _ = _; omega)).trans (w_entry m c k _)
  · exact (d_block m c _ (by rw [hp]; omega) l q ⟨f * 512 + l.val, by omega⟩ (by rw [hp, hm])).trans (d_entry m c _ q)

/-- The scratch's sum after block `f` of hidden columns. -/
theorem sums_at (i : ℕ) (hi : i ≤ 16) (r : Fin 512) (q : Fin 2048) (a : Fin 8704) (h : a.val = i * 512 + r.val) : ∀ f ≤ 10,
    (sums m c i f (ix2 r q) : EReal) = ∑ b ∈ Finset.range (f + 1), ∑ l : Fin 512, termAt m c a q (b * 512 + l.val)
  | 0, _ => by
    rw [sums, pay11_at, Finset.sum_range_one]
    exact part_at m c i 0 hi (by omega) a _ (funext fun k => loaded_at m c i 0 hi (by omega) r k a h) q
  | f + 1, hf => by
    rw [sums, pay16_at, Finset.sum_range_succ, sums_at i hi r q a h f (by omega)]
    exact congrArg _ (part_at m c i (f + 1) hi hf a _ (funext fun k => rows_at m c i hi r k a h) q)

/-- The row block with the whole sum added. -/
theorem full_at (i : ℕ) (hi : i ≤ 16) (r : Fin 512) (q : Fin 2048) (a : Fin 8704) (h : a.val = i * 512 + r.val) :
    (full m c i (ix2 r q) : EReal) = Ffn.added (m ((c : Thread nD τ).loc main_arg3)) (m ((c : Thread nD τ).loc main_arg4)) (row m c a) q := by
  rw [full, pay1_at, Ffn.added, Fin.sum_univ_eq_sum_range (fun j => termAt m c a q j) 5632, Finset.sum_range_mul_split 11 512,
    Finset.sum_range_succ, sums_at m c i hi r q a h 9 (by omega), part_at m c i 10 hi (by omega) a _ (funext fun k => rows_at m c i hi r k a h) q,
    loaded_at m c i 10 hi (by omega) r q a h]
  simp only [← Fin.sum_univ_eq_sum_range]

/-- A normalised row block's entries. -/
theorem normal_at (i n : ℕ) (hi : i ≤ 16) (r : Fin 512) (q : Fin 2048) (a : Fin 8704) (h : a.val = i * 512 + r.val) :
    Ffn.norm (fun q => full m c i (ix2 r q)) (fun q => bγ m c n (ix2 0 q)) (fun q => bβ m c n (ix2 0 q)) q = Ffn.out (joined (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) a q := by
  unfold Ffn.out
  rw [show (fun q => full m c i (ix2 r q)) = Ffn.added _ _ (row m c a) from funext fun q => full_at m c i hi r q a h,
    show (fun q => bγ m c n (ix2 0 q)) = _ from funext fun q => (γ_block m c _ q).trans (γ_entry m c q),
    show (fun q => bβ m c n (ix2 0 q)) = _ from funext fun q => (β_block m c _ q).trans (β_entry m c q)]
  rfl

theorem outMain_at (i : ℕ) (hi : i ≤ 16) (r : Fin 512) (q : Fin 2048) (a : Fin 8704) (h : a.val = i * 512 + r.val) :
    (outMain m c i (ix2 r q) : EReal) = Ffn.out (joined (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) a q :=
  (pay14_at _ _ _ r q).trans (normal_at m c i _ hi r q a h)

theorem outNarrow_at (i : ℕ) (hi : i ≤ 16) (r : Fin 512) (q : Fin 2048) (a : Fin 8704) (h : a.val = i * 512 + r.val) :
    (Body.outNarrow m c i (ix2 r q) : EReal) = Ffn.out (joined (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) a q :=
  (pay15_at _ _ _ r q).trans (normal_at m c i _ hi r q a h)

theorem copied_at (n : ℕ) (hn : n ≤ 132) (r : Fin 96) (k : Fin 2048) (a : Fin 12768) (h : a.val = n * 96 + r.val) :
    (copied m c n (ix2 r k) : EReal) = m ((c : Thread nD τ).loc main_arg7) (ix3 0 k a) :=
  (pay8_at _ r k).trans ((p_block m c _ r k a (by rw [pt_of _ (by omega), show min n 132 = n by omega]; exact h)).trans (p_entry m c a k))

/-! ## The arrays after the run -/

theorem final8 : (dats m 0 c).arrAt 8 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have hN : t.val < 198 := lt_of_lt_of_eq t.isLt (show cfg0.N = 198 from N_0)
  have e0 := Pipeline.Window.rect_emb_val win0_8 t y 0
  have e1 := Pipeline.Window.rect_emb_val win0_8 t y 1
  rw [(idx_out t).1] at e0 e1
  change _ = (t.val / 11 - 1) * 512 + (y 0).val at e0
  change _ = 0 * 2048 + (y 1).val at e1
  rw [after0_8]
  refine (congrArg (outMain m c _) (eq_ix2 y)).trans ((outMain_at m c _ (by omega) (y 0) (y 1) _ e0).trans ?_)
  exact congrArg (Ffn.out _ _ _ _ _ _) (Fin.ext (by rw [← Nat.zero_add (y 1).val, ← Nat.zero_mul 2048]; exact e1.symm))

theorem final9 : (dats m 0 c).arrAt 9 cfg0.N = outNarrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have hN : t.val < 198 := lt_of_lt_of_eq t.isLt (show cfg0.N = 198 from N_0)
  have e0 := Pipeline.Window.rect_emb_val win0_9 t y 0
  have e1 := Pipeline.Window.rect_emb_val win0_9 t y 1
  rw [(idx_out t).2.1] at e0 e1
  change _ = (t.val / 11 - 1) * 512 + (y 0).val at e0
  change _ = 0 * 2048 + (y 1).val at e1
  rw [after0_9]
  refine (congrArg (Body.outNarrow m c _) (eq_ix2 y)).trans ((outNarrow_at m c _ (by omega) (y 0) (y 1) _ e0).trans ?_)
  exact congrArg (Ffn.out _ _ _ _ _ _) (Fin.ext (by rw [← Nat.zero_add (y 1).val, ← Nat.zero_mul 2048]; exact e1.symm))

theorem final10 : (dats m 0 c).arrAt 10 cfg0.N = turned (m ((c : Thread nD τ).loc main_arg7)) := by
  refine (dats m 0 c).arrAt_eq_of_covers 10 _ (by decide +kernel) fun t hf y => ?_
  have e0 := Pipeline.Window.rect_emb_val win0_10 t y 0
  have e1 := Pipeline.Window.rect_emb_val win0_10 t y 1
  rw [(idx_out t).2.2] at e0 e1
  change _ = min t.val 132 * 96 + (y 0).val at e0
  change _ = 0 * 2048 + (y 1).val at e1
  rw [after0_10]
  refine (congrArg (copied m c _) (eq_ix2 y)).trans ((copied_at m c _ (by omega) (y 0) (y 1) _ e0).trans ?_)
  exact congrArg (fun k => m ((c : Thread nD τ).loc main_arg7) (ix3 0 k _)) (Fin.ext (by rw [← Nat.zero_add (y 1).val, ← Nat.zero_mul 2048]; exact e1.symm))

/-- The run, read: the results at the rows normalised and the weight transposed, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15_0) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v15_1) = outNarrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v15_2) = turned (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 8).trans (final8 m c), ((h.1 c).1 9).trans (final9 m c), ((h.1 c).1 10).trans (final10 m c), h.2 c⟩)
    (θ_run_and (run_main m ρ) (unchanged m ρ))

end Cert.First

end

end
-- ==== Proof.FfnIn.Reference.lean ====
/- The first feed-forward kernel's reference: the rows put one after another, through the same network and normalisation
   as the other half's reference, and the weight transposed. -/
module

public import proofs.«01_k».proof.Proof.Gen.FfnInRefIdeal.Run
public import proofs.«01_k».proof.Proof.FfnIn.Spec
public import proofs.«01_k».proof.Proof.FfnOut.Reference

@[expose] public section

set_option maxRecDepth 16384

noncomputable section

namespace Cert.First

open Cert.FfnInRefIdeal Cert.FfnInRefIdeal.Gen Idealize.ShloMosaic Idealize.ShloMosaic.TcCoe Idealize.SL.Sem

/-- The learned rows behind their padding. -/
def heads (t : FVec Ideal S16x2048 .f32) : FVec Ideal S64x2048 .f32 :=
  concatenate S64x2048 0 [⟨S48x2048, broadcastInDim S48x2048 ![] bcast_S_S48x2048 (constant S_ .f32 0x00000000#32 : FVec Ideal S_ .f32)⟩, ⟨S16x2048, t⟩]
    concatenates_S48x2048_S16x2048_S64x2048_d0

/-- The rows as the reference puts them together. -/
def joins (x : FVec Ideal S4x2048x2048 .f32) (s : FVec Ideal S16x16x2048 .f32) (h : FVec Ideal S64x2048 .f32) : FVec Ideal S8704x2048 .f32 :=
  concatenate S8704x2048 0 [⟨S8192x2048, shapeCast S8192x2048 x shapeCasts_S4x2048x2048_S8192x2048⟩, ⟨S256x2048, shapeCast S256x2048 s shapeCasts_S16x16x2048_S256x2048⟩,
    ⟨S64x2048, h⟩, ⟨S64x2048, h⟩, ⟨S64x2048, h⟩, ⟨S64x2048, h⟩] concatenates_S8192x2048_S256x2048_S64x2048_S64x2048_S64x2048_S64x2048_S8704x2048_d0

theorem heads_at (t : FVec Ideal S16x2048 .f32) (r : Fin 64) (k : Fin 2048) :
    (heads t (ix2 r k) : EReal) = if h : r.val < 48 then 0 else t (ix2 ⟨r.val - 48, by omega⟩ k) := by
  unfold heads
  pointwise

theorem joins_at (x : FVec Ideal S4x2048x2048 .f32) (s : FVec Ideal S16x16x2048 .f32) (t : FVec Ideal S16x2048 .f32) (a : Fin 8704) (k : Fin 2048) :
    (joins x s (heads t) (ix2 a k) : EReal) = entry x s t a k := by
  have learned : ∀ r : Fin 64, 8448 ≤ a.val → (a.val - 8448) % 64 = r.val → (heads t (ix2 r k) : EReal) = entry x s t a k := fun r h hr => by
    rw [heads_at]
    by_cases h1 : r.val < 48
    · rw [dif_pos h1, entry_of_pad x s t a k h (by omega)]
    · rw [dif_neg h1, entry_of_learned x s t a k ⟨r.val - 48, by omega⟩ h (by show _ = 48 + (r.val - 48); omega)]
  unfold joins
  pointwise
  by_cases h1 : a.val < 8192
  · rw [dif_pos h1, entry_of_frame x s t a k h1]
  rw [dif_neg h1]
  by_cases h2 : a.val - 8192 < 256
  · rw [dif_pos h2, entry_of_sample x s t a k (by omega) (by omega)]
  rw [dif_neg h2]
  by_cases h3 : a.val - 8192 - 256 < 64
  · rw [dif_pos h3]; exact learned _ (by omega) (by show _ = a.val - 8192 - 256; omega)
  rw [dif_neg h3]
  by_cases h4 : a.val - 8192 - 256 - 64 < 64
  · rw [dif_pos h4]; exact learned _ (by omega) (by show _ = a.val - 8192 - 256 - 64; omega)
  rw [dif_neg h4]
  by_cases h5 : a.val - 8192 - 256 - 64 - 64 < 64
  · rw [dif_pos h5]; exact learned _ (by omega) (by show _ = a.val - 8192 - 256 - 64 - 64; omega)
  rw [dif_neg h5]
  exact learned _ (by omega) (by show _ = a.val - 8192 - 256 - 64 - 64 - 64; omega)

/-- The rows, put together, are the rows. -/
theorem joins_eq (x : FVec Ideal S4x2048x2048 .f32) (s : FVec Ideal S16x16x2048 .f32) (t : FVec Ideal S16x2048 .f32) : joins x s (heads t) = joined x s t := by
  funext i
  rw [eq_ix2 i]
  exact joins_at x s t _ _

/-- The whole first result. -/
theorem whole_at (x : FVec Ideal S4x2048x2048 .f32) (s : FVec Ideal S16x16x2048 .f32) (t : FVec Ideal S16x2048 .f32) (w : FVec Ideal S1x2048x11264 .f32)
    (d : FVec Ideal S1x5632x2048 .f32) (γ β : FVec Ideal S1x2048 .f32) (a : Fin 8704) (q : Fin 2048) :
    (Ffn.normals (Ffn.addeds (joins x s (heads t)) (Ffn.hiddens (Ffn.products (joins x s (heads t)) w)) d) γ β (ix2 a q) : EReal)
      = Ffn.out (joined x s t) w d γ β a q := by
  rw [joins_eq]
  exact Ffn.whole_at _ w d γ β a q

/-- The weight transposed, as the reference does it. -/
def turns (p : FVec Ideal S1x2048x12768 .f32) : FVec Ideal S12768x2048 .bf16 :=
  truncf .bf16 (transpose S12768x2048 [1, 0] (shapeCast S2048x12768 p shapeCasts_S1x2048x12768_S2048x12768) transposes_S2048x12768_S12768x2048_1_0) bitsLt_bf16_f32

theorem turns_at (p : FVec Ideal S1x2048x12768 .f32) (a : Fin 12768) (k : Fin 2048) : (turns p (ix2 a k) : EReal) = p (ix3 0 k a) := by
  unfold turns
  pointwise

variable (m : (ℓ : Loc nD τ sig) → Buf (Elt Ideal) ℓ) (c : Dev nD)

theorem res_wide : Value.res_main_v43 (F := Ideal) m c = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show Ffn.normals (Ffn.addeds (joins (m ((c : Thread nD τ).loc main_arg0)) (m ((c : Thread nD τ).loc main_arg1)) (heads (m ((c : Thread nD τ).loc main_arg2)))) (Ffn.hiddens (Ffn.products (joins (m ((c : Thread nD τ).loc main_arg0)) (m ((c : Thread nD τ).loc main_arg1)) (heads (m ((c : Thread nD τ).loc main_arg2)))) (m ((c : Thread nD τ).loc main_arg3)))) (m ((c : Thread nD τ).loc main_arg4))) (m ((c : Thread nD τ).loc main_arg5)) (m ((c : Thread nD τ).loc main_arg6)) = _
  funext i
  rw [eq_ix2 i]
  exact whole_at _ _ _ _ _ _ _ _ _

theorem res_narrow : Value.res_main_v44 (F := Ideal) m c = outNarrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show (truncf .bf16 (Ffn.normals (Ffn.addeds (joins (m ((c : Thread nD τ).loc main_arg0)) (m ((c : Thread nD τ).loc main_arg1)) (heads (m ((c : Thread nD τ).loc main_arg2)))) (Ffn.hiddens (Ffn.products (joins (m ((c : Thread nD τ).loc main_arg0)) (m ((c : Thread nD τ).loc main_arg1)) (heads (m ((c : Thread nD τ).loc main_arg2)))) (m ((c : Thread nD τ).loc main_arg3)))) (m ((c : Thread nD τ).loc main_arg4))) (m ((c : Thread nD τ).loc main_arg5)) (m ((c : Thread nD τ).loc main_arg6))) bitsLt_bf16_f32 : FVec Ideal S8704x2048 .bf16) = _
  funext i
  rw [eq_ix2 i]
  exact whole_at _ _ _ _ _ _ _ _ _

theorem res_turned (p : FVec Ideal S1x2048x12768 .f32) : turns p = turned p := by
  funext i
  rw [eq_ix2 i]
  exact turns_at p _ _

/-- The reference's run, read. -/
theorem ref_run (ρ : Dev nD → PrngReg) :
    θ_run defs (onTc (τ := τ) (main (F := Ideal))) ⟨m, fun _ => 0, ρ⟩ fun r => ∀ c : Dev nD,
      r.2.mem ((c : Thread nD τ).loc main_v43) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v44) = outNarrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v47) = turned (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (res_wide m c), (h c).2.1.trans (res_narrow m c), (h c).2.2.1.trans (res_turned _), (h c).2.2.2⟩) (Value.run (F := Ideal) m ρ)

/-- The reference's frame: it names no semaphore. -/
theorem frame_ref : Cert.quiescent_FfnInRefIdeal := fun m ρ _ =>
  (θ_run defs _ _).mono (fun r h => ⟨fun c => (h c).2.2.2, sem_eq_zero_of_no_sems (by decide) r.2⟩) (ref_run m ρ)

end Cert.First

end

end
-- ==== Proof.Proj.Spec.lean ====
/- What the projection computes: the inner product of a row of the activations with a column of the weight,
   the columns in the order in which the result stores them. -/
module

public import proofs.«01_k».proof.Proof.Gen.KernelIdeal
public import Idealize.ShloMosaic.Lib.Pipeline.ValueKit
public import Idealize.ShloMosaic.Lib.Pointwise

@[expose] public section

set_option maxRecDepth 16384

noncomputable section

namespace Cert.Proj

open Cert.KernelIdeal Idealize.ShloMosaic

/-- The weight's column that column `j` of the result stores; 12768, one past the last, where it stores zeros. -/
def colOf (j : ℕ) : ℕ :=
  if j < 3168 then j else if j < 3200 then 12768 else if j < 3296 then j - 32 else if j < 3328 then 12768
  else if j < 3584 then j - 64 else if j < 3616 then j - 3584 + 8640 else if j < 4096 then 12768
  else if j < 8192 then j - 4096 + 8672 else if j < 10240 then j - 8192 + 3520 else j - 10240 + 5568

/-- The weight at row `k` and column `n`, zero past the last column. -/
def wAt (w : FVec Ideal S1x2048x12768 .f32) (n : ℕ) (k : Fin 2048) : EReal :=
  if h : n < 12768 then w (ix3 0 k ⟨n, h⟩) else 0

/-- The projection, stored in the result's order. -/
def proj (x : FVec Ideal S8704x2048 .f32) (w : FVec Ideal S1x2048x12768 .f32) : FVec Ideal S8704x13312 .f32 :=
  fun i => ∑ k : Fin 2048, (x (ix2 (i 0) k) : EReal) * wAt w (colOf (i 1)) k

theorem wAt_of (w : FVec Ideal S1x2048x12768 .f32) (n q : ℕ) (k : Fin 2048) (h : n < 12768) (e : q = n) :
    w (ix3 0 k ⟨n, h⟩) = wAt w q k := by
  subst e
  unfold wAt
  rw [dif_pos h]

theorem wAt_none (w : FVec Ideal S1x2048x12768 .f32) (q : ℕ) (k : Fin 2048) (e : q = 12768) : wAt w q k = 0 := by
  subst e
  unfold wAt
  rw [dif_neg (lt_irrefl _)]

end Cert.Proj

end

end
-- ==== Proof.Proj.Kernel.lean ====
/- The projection kernel's result array holds the projection: a block of the result is the product of a block of
   rows with a block of weight rows, found in the weight itself or in the array of the ragged columns. -/
module

public import proofs.«01_k».proof.Proof.Gen.KernelIdeal.Value
public import proofs.«01_k».proof.Proof.Proj.Spec

@[expose] public section

set_option maxRecDepth 16384

noncomputable section

namespace Cert.Proj

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block that each window is at, point by point: row block first, column tile second. -/
theorem idx : ∀ t : Fin grid0.N, win0_0.index t = ![t.val % 8, 0] ∧ win0_3.index t = ![t.val % 8, t.val / 8]
    ∧ (¬ t.val / 8 % 13 = 3 → win0_1.index t = ![colOf (t.val / 8 * 1024), 0]) ∧ win0_2.index t = ![0, 0] := by
  decide +kernel

/-- The weight's rows for the first mixer. -/
def rows (wt : FVec Ideal S12768x2048 .bf16) : FVec Ideal S3520x2048 .bf16 :=
  extractStridedSlice S3520x2048 ![0, 0] wt slices_S12768x2048_S3520x2048_0_0

/-- The rows of zeros between its low-rank parts. -/
def zeros : FVec Ideal S32x2048 .bf16 := broadcastInDim S32x2048 ![] bcast_S_S32x2048 (constant S_ .bf16 0x0000#16)

/-- Its rows with the low-rank parts padded. -/
def lowRank (wt : FVec Ideal S12768x2048 .bf16) : FVec Ideal S3584x2048 .bf16 :=
  concatenate S3584x2048 0 [⟨S3072x2048, extractStridedSlice S3072x2048 ![0, 0] (rows wt) slices_S3520x2048_S3072x2048_0_0⟩,
    ⟨S128x2048, concatenate S128x2048 0 [⟨S96x2048, extractStridedSlice S96x2048 ![3072, 0] (rows wt) slices_S3520x2048_S96x2048_3072_0⟩,
      ⟨S32x2048, zeros⟩] concatenates_S96x2048_S32x2048_S128x2048_d0⟩,
    ⟨S128x2048, concatenate S128x2048 0 [⟨S96x2048, extractStridedSlice S96x2048 ![3168, 0] (rows wt) slices_S3520x2048_S96x2048_3168_0⟩,
      ⟨S32x2048, zeros⟩] concatenates_S96x2048_S32x2048_S128x2048_d0⟩,
    ⟨S256x2048, extractStridedSlice S256x2048 ![3264, 0] (rows wt) slices_S3520x2048_S256x2048_3264_0⟩]
    concatenates_S3072x2048_S128x2048_S128x2048_S256x2048_S3584x2048_d0

/-- The rows of the fourth column tile: the padded low-rank parts, the step sizes, zeros. -/
def mixed (wt : FVec Ideal S12768x2048 .bf16) : FVec Ideal S1024x2048 .bf16 :=
  concatenate S1024x2048 0 [⟨S512x2048, extractStridedSlice S512x2048 ![3072, 0] (lowRank wt) slices_S3584x2048_S512x2048_3072_0⟩,
    ⟨S512x2048, concatenate S512x2048 0 [⟨S32x2048, extractStridedSlice S32x2048 ![8640, 0] wt slices_S12768x2048_S32x2048_8640_0⟩,
      ⟨S480x2048, broadcastInDim S480x2048 ![] bcast_S_S480x2048 (constant S_ .bf16 0x0000#16)⟩] concatenates_S32x2048_S480x2048_S512x2048_d0⟩]
    concatenates_S512x2048_S512x2048_S1024x2048_d0

set_option maxHeartbeats 2000000 in
/-- The array that the host operations lay out for the fourth tile. -/
theorem mixed_eq (c : Dev nD) : V m c main_v18 = mixed (V m c main_v3) := by
  unfold V
  after_results
  rfl

set_option maxHeartbeats 2000000 in
/-- Its entries, row by row. -/
theorem mixed_at (wt : FVec Ideal S12768x2048 .bf16) (n : Fin 1024) (k : Fin 2048) :
    (mixed wt (ix2 n k) : EReal) = if h : colOf (3072 + n) < 12768 then wt (ix2 ⟨_, h⟩ k) else 0 := by
  unfold mixed lowRank rows zeros
  pointwise
  have hv : ∀ n : Fin 1024, colOf (3072 + n.val) = if n.val < 96 then 3072 + n.val else if n.val < 128 then 12768
      else if n.val < 224 then n.val + 3040 else if n.val < 256 then 12768 else if n.val < 512 then n.val + 3008
      else if n.val < 544 then n.val + 8128 else 12768 := by decide +kernel
  have hq := hv n
  have hn := n.isLt
  generalize colOf (3072 + n.val) = q at hq ⊢
  split_ifs at hq <;> split_ifs <;> first
    | (exfalso; omega)
    | rfl
    | rw [dif_neg (by omega)]
    | (rw [dif_pos (by omega : q < 12768)]; refine congrArg wt (congrArg (ix2 · k) (Fin.ext ?_)); dsimp only; omega)

/-- The transposed weight's entries. -/
theorem wt_row (c : Dev nD) (n : Fin 12768) (k : Fin 2048) :
    V m c main_v3 (ix2 n k) = wAt (m ((c : Thread nD τ).loc main_arg1)) n k := by
  entry_read
  unfold wAt
  rw [dif_pos n.isLt]
  pointwise

/-- The fourth tile's entries as the weight's. -/
theorem mixed_row (c : Dev nD) (n : Fin 1024) (k : Fin 2048) :
    V m c main_v18 (ix2 n k) = wAt (m ((c : Thread nD τ).loc main_arg1)) (colOf (3072 + n)) k := by
  refine (congrFun (mixed_eq m c) _).trans ((mixed_at _ n k).trans ?_)
  split_ifs with h
  · exact wt_row m c ⟨_, h⟩ k
  · unfold wAt
    rw [dif_neg h]

/-- A block of rows of the activations. -/
theorem x_block (c : Dev nD) (t : Fin cfg0.N) (r : Fin 1088) (k : Fin 2048) (r' : Fin 8704) (h : r'.val = t.val % 8 * 1088 + r.val) :
    iblk m c 0 t (ix2 r k) = m ((c : Thread nD τ).loc main_arg0) (ix2 r' k) := by
  blk_ext [iblk, idx t, h]

/-- A block of weight rows, placed by element. -/
theorem w_block (c : Dev nD) (t : Fin cfg0.N) (h : ¬ t.val / 8 % 13 = 3) (n : Fin 1024) (k : Fin 2048) (n' : Fin 12768) (hn : n'.val = colOf (t.val / 8 * 1024) + n.val) :
    iblk m c 1 t (ix2 n k) = V m c main_v3 (ix2 n' k) := by
  refine congrArg (V m c main_v3) ?_
  funext a
  refine Fin.ext ?_
  have h1 := Pipeline.Window.rect_emb_val_off win0_1 t (ix2 n k) a
  rw [(idx t).2.2.1 h] at h1
  refine Eq.trans h1 ?_
  fin_cases a
  · exact hn.symm
  · exact Nat.zero_add _

/-- The fourth tile is read whole. -/
theorem mixed_block (c : Dev nD) (t : Fin cfg0.N) (n : Fin 1024) (k : Fin 2048) :
    iblk m c 2 t (ix2 n k) = V m c main_v18 (ix2 n k) := by
  blk_ext [iblk, (idx t).2.2.2]

/-- Within a tile other than the fourth the weight's columns run on from the tile's first. -/
theorem colOf_add (j n : ℕ) (hj : j < 13) (h3 : ¬ j = 3) (hn : n < 1024) :
    colOf (j * 1024 + n) = colOf (j * 1024) + n ∧ colOf (j * 1024) + n < 12768 := by
  have h : ∀ j : Fin 13, ¬ j.val = 3 → ∀ n : Fin 1024, colOf (j.val * 1024 + n.val) = colOf (j.val * 1024) + n.val
      ∧ colOf (j.val * 1024) + n.val < 12768 := by decide +kernel
  exact h ⟨j, hj⟩ h3 ⟨n, hn⟩

/-- The result array after the run. -/
theorem final (c : Dev nD) : (dats m 0 c).arrAt 3 cfg0.N
    = proj (m ((c : Thread nD τ).loc main_arg0)) (m ((c : Thread nD τ).loc main_arg1)) := by
  refine (dats m 0 c).arrAt_eq_of_covers 3 _ (by decide +kernel) fun t hf y => ?_
  have hN : t.val < 104 := lt_of_lt_of_eq t.isLt (show cfg0.N = 104 from N_0)
  have hy0 : (y 0).val < 1088 := (y 0).isLt
  have hy1 : (y 1).val < 1024 := (y 1).isLt
  have e0 := Pipeline.Window.rect_emb_val win0_3 t y 0
  have e1 := Pipeline.Window.rect_emb_val win0_3 t y 1
  rw [(idx t).2.1] at e0 e1
  change _ = t.val % 8 * 1088 + (y 0).val at e0
  change _ = t.val / 8 * 1024 + (y 1).val at e1
  rw [after0_3]
  by_cases h : t.val / 8 % 13 = 3
  · rw [outsAt0_B m c t (not_not.mpr h) h]
    frame_out
    unfold k0_pay2
    pointwise
    change @Eq EReal _ (∑ k : Fin 2048, _)
    refine Finset.sum_congr rfl fun k _ => ?_
    refine congrArg₂ (· * ·) (x_block m c t (y 0) k _ e0) ((mixed_block m c t (y 1) k).trans ((mixed_row m c (y 1) k).trans ?_))
    refine congrArg (fun j => wAt _ (colOf j) k) (Eq.trans ?_ e1.symm)
    have : t.val / 8 = 3 := by omega
    rw [this]
  · rw [outsAt0_A m c t h h]
    frame_out
    unfold k0_pay1
    pointwise
    have hc := colOf_add (t.val / 8) (y 1).val (by omega) (by omega) hy1
    change @Eq EReal _ (∑ k : Fin 2048, _)
    refine Finset.sum_congr rfl fun k _ => ?_
    refine congrArg₂ (· * ·) (x_block m c t (y 0) k _ e0)
      ((w_block m c t h (y 1) k ⟨_, hc.2⟩ rfl).trans ((wt_row m c ⟨_, hc.2⟩ k).trans ?_))
    exact congrArg (fun j => wAt _ j k) (hc.1.symm.trans (congrArg colOf e1.symm))

/-- The run, read: the result at the projection, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v19) = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Proj

end

end
-- ==== Proof.Proj.Reference.lean ====
/- The reference's result is the projection: its concatenation read column by column. -/
module

public import proofs.«01_k».proof.Proof.Gen.ReferenceIdeal.Run
public import proofs.«01_k».proof.Defs
public import proofs.«01_k».proof.Proof.Proj.Spec
public import Idealize.ShloMosaic.Lib.Quiescent

@[expose] public section

set_option maxRecDepth 16384

noncomputable section

namespace Cert.Proj

open Cert.ReferenceIdeal Cert.ReferenceIdeal.Gen Idealize.ShloMosaic Idealize.ShloMosaic.TcCoe Idealize.SL.Sem
open Idealize.ShloMosaic.Pipeline (Dat)

/-- A choice both of whose sides are one value. -/
theorem dite_of {α : Sort*} {P : Prop} [Decidable P] {a : P → α} {b : ¬ P → α} {v : α} (ha : ∀ h, a h = v) (hb : ∀ h, b h = v) :
    dite P a b = v := by
  split
  · exact ha _
  · exact hb _

/-- A column that is a column of the weight. -/
theorem sum_of (x : FVec Ideal S8704x2048 .f32) (w : FVec Ideal S1x2048x12768 .f32) (a : Fin 8704) (n q : ℕ) (h : n < 12768) (e : q = n) :
    ∑ k : Fin 2048, (x (ix2 a k) : EReal) * w (ix3 0 k ⟨n, h⟩) = ∑ k : Fin 2048, (x (ix2 a k) : EReal) * wAt w q k :=
  Finset.sum_congr rfl fun k _ => congrArg (x (ix2 a k) * ·) (wAt_of w n q k h e)

/-- A column of zeros. -/
theorem sum_none (x : FVec Ideal S8704x2048 .f32) (w : FVec Ideal S1x2048x12768 .f32) (a : Fin 8704) (q : ℕ) (e : q = 12768) :
    (0 : EReal) = ∑ k : Fin 2048, (x (ix2 a k) : EReal) * wAt w q k :=
  (Finset.sum_eq_zero fun k _ => by rw [wAt_none w q k e, mul_zero]).symm

/-- The concatenation's cases. -/
theorem ladder (x : FVec Ideal S8704x2048 .f32) (w : FVec Ideal S1x2048x12768 .f32) (a : Fin 8704) (j : ℕ) (hj : j < 13312) :
    (
    if h0 : j < 3072 then ∑ k : Fin 2048, (x (ix2 a k) : EReal) * w (ix3 0 k ⟨j, by omega⟩) else
    if h1 : j - 3072 < 96 then ∑ k : Fin 2048, (x (ix2 a k) : EReal) * w (ix3 0 k ⟨3072 + (j - 3072), by omega⟩) else
    if h2 : j - 3072 - 96 < 32 then (0 : EReal) else
    if h3 : j - 3072 - 96 - 32 < 96 then ∑ k : Fin 2048, (x (ix2 a k) : EReal) * w (ix3 0 k ⟨3168 + (j - 3072 - 96 - 32), by omega⟩) else
    if h4 : j - 3072 - 96 - 32 - 96 < 32 then (0 : EReal) else
    if h5 : j - 3072 - 96 - 32 - 96 - 32 < 256 then ∑ k : Fin 2048, (x (ix2 a k) : EReal) * w (ix3 0 k ⟨3264 + (j - 3072 - 96 - 32 - 96 - 32), by omega⟩) else
    if h6 : j - 3072 - 96 - 32 - 96 - 32 - 256 < 32 then ∑ k : Fin 2048, (x (ix2 a k) : EReal) * w (ix3 0 k ⟨8640 + (j - 3072 - 96 - 32 - 96 - 32 - 256), by omega⟩) else
    if h7 : j - 3072 - 96 - 32 - 96 - 32 - 256 - 32 < 480 then (0 : EReal) else
    if h8 : j - 3072 - 96 - 32 - 96 - 32 - 256 - 32 - 480 < 4096 then ∑ k : Fin 2048, (x (ix2 a k) : EReal) * w (ix3 0 k ⟨8672 + (j - 3072 - 96 - 32 - 96 - 32 - 256 - 32 - 480), by omega⟩) else
    if h9 : j - 3072 - 96 - 32 - 96 - 32 - 256 - 32 - 480 - 4096 < 2048 then ∑ k : Fin 2048, (x (ix2 a k) : EReal) * w (ix3 0 k ⟨3520 + (j - 3072 - 96 - 32 - 96 - 32 - 256 - 32 - 480 - 4096), by omega⟩) else
    ∑ k : Fin 2048, (x (ix2 a k) : EReal) * w (ix3 0 k ⟨5568 + (j - 3072 - 96 - 32 - 96 - 32 - 256 - 32 - 480 - 4096 - 2048), by omega⟩)) = ∑ k : Fin 2048, (x (ix2 a k) : EReal) * wAt w (colOf j) k := by
  repeat' refine dite_of (fun h => ?_) (fun h => ?_)
  all_goals first
    | refine sum_none x w a _ ?_
    | refine sum_of x w a _ _ _ ?_
  all_goals
    clear x w
    unfold colOf
    repeat first | rw [if_pos (by omega)] | rw [if_neg (by omega)]
    try omega

set_option maxHeartbeats 2000000 in
/-- The reference's term is the projection. -/
theorem ref_eq (x : FVec Ideal S8704x2048 .f32) (w : FVec Ideal S1x2048x12768 .f32) : (((concatenate S8704x13312 1 [⟨S8704x3072, ((extractStridedSlice S8704x3072 ![0, 0] (extractStridedSlice S8704x3520 ![0, 0] (Host.dotGeneral dot_S8704x2048_S2048x12768_S8704x12768_1_0_0_1_n_n none x (shapeCast _ w shapeCasts_S1x2048x12768_S2048x12768)) slices_S8704x12768_S8704x3520_0_0) slices_S8704x3520_S8704x3072_0_0) : (⟨S8704x3072, .f32⟩ : BufTy).Contents (Elt Ideal))⟩, ⟨S8704x96, ((extractStridedSlice S8704x96 ![0, 3072] (extractStridedSlice S8704x3520 ![0, 0] (Host.dotGeneral dot_S8704x2048_S2048x12768_S8704x12768_1_0_0_1_n_n none x (shapeCast _ w shapeCasts_S1x2048x12768_S2048x12768)) slices_S8704x12768_S8704x3520_0_0) slices_S8704x3520_S8704x96_0_3072) : (⟨S8704x96, .f32⟩ : BufTy).Contents (Elt Ideal))⟩, ⟨S8704x32, ((broadcastInDim S8704x32 ![] bcast_S_S8704x32 (constant S_ .f32 0x00000000#32 : FVec Ideal S_ .f32)) : (⟨S8704x32, .f32⟩ : BufTy).Contents (Elt Ideal))⟩, ⟨S8704x96, ((extractStridedSlice S8704x96 ![0, 3168] (extractStridedSlice S8704x3520 ![0, 0] (Host.dotGeneral dot_S8704x2048_S2048x12768_S8704x12768_1_0_0_1_n_n none x (shapeCast _ w shapeCasts_S1x2048x12768_S2048x12768)) slices_S8704x12768_S8704x3520_0_0) slices_S8704x3520_S8704x96_0_3168) : (⟨S8704x96, .f32⟩ : BufTy).Contents (Elt Ideal))⟩, ⟨S8704x32, ((broadcastInDim S8704x32 ![] bcast_S_S8704x32 (constant S_ .f32 0x00000000#32 : FVec Ideal S_ .f32)) : (⟨S8704x32, .f32⟩ : BufTy).Contents (Elt Ideal))⟩, ⟨S8704x256, ((extractStridedSlice S8704x256 ![0, 3264] (extractStridedSlice S8704x3520 ![0, 0] (Host.dotGeneral dot_S8704x2048_S2048x12768_S8704x12768_1_0_0_1_n_n none x (shapeCast _ w shapeCasts_S1x2048x12768_S2048x12768)) slices_S8704x12768_S8704x3520_0_0) slices_S8704x3520_S8704x256_0_3264) : (⟨S8704x256, .f32⟩ : BufTy).Contents (Elt Ideal))⟩, ⟨S8704x32, ((extractStridedSlice S8704x32 ![0, 8640] (Host.dotGeneral dot_S8704x2048_S2048x12768_S8704x12768_1_0_0_1_n_n none x (shapeCast _ w shapeCasts_S1x2048x12768_S2048x12768)) slices_S8704x12768_S8704x32_0_8640) : (⟨S8704x32, .f32⟩ : BufTy).Contents (Elt Ideal))⟩, ⟨S8704x480, ((broadcastInDim S8704x480 ![] bcast_S_S8704x480 (constant S_ .f32 0x00000000#32 : FVec Ideal S_ .f32)) : (⟨S8704x480, .f32⟩ : BufTy).Contents (Elt Ideal))⟩, ⟨S8704x4096, ((extractStridedSlice S8704x4096 ![0, 8672] (Host.dotGeneral dot_S8704x2048_S2048x12768_S8704x12768_1_0_0_1_n_n none x (shapeCast _ w shapeCasts_S1x2048x12768_S2048x12768)) slices_S8704x12768_S8704x4096_0_8672) : (⟨S8704x4096, .f32⟩ : BufTy).Contents (Elt Ideal))⟩, ⟨S8704x2048, ((extractStridedSlice S8704x2048 ![0, 3520] (Host.dotGeneral dot_S8704x2048_S2048x12768_S8704x12768_1_0_0_1_n_n none x (shapeCast _ w shapeCasts_S1x2048x12768_S2048x12768)) slices_S8704x12768_S8704x2048_0_3520) : (⟨S8704x2048, .f32⟩ : BufTy).Contents (Elt Ideal))⟩, ⟨S8704x3072, ((extractStridedSlice S8704x3072 ![0, 5568] (Host.dotGeneral dot_S8704x2048_S2048x12768_S8704x12768_1_0_0_1_n_n none x (shapeCast _ w shapeCasts_S1x2048x12768_S2048x12768)) slices_S8704x12768_S8704x3072_0_5568) : (⟨S8704x3072, .f32⟩ : BufTy).Contents (Elt Ideal))⟩] concatenates_S8704x3072_S8704x96_S8704x32_S8704x96_S8704x32_S8704x256_S8704x32_S8704x480_S8704x4096_S8704x2048_S8704x3072_S8704x13312_d1 : (⟨S8704x13312, .f32⟩ : BufTy).Contents (Elt Ideal)) : FVec Ideal S8704x13312 .f32)) = proj x w := by
  funext i
  have hj : (i 1).val < 13312 := (i 1).isLt
  unfold proj
  pointwise
  exact ladder x w (i 0) (i 1).val hj

/-- The reference's run, read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run (F := Ideal) m ρ)

/-- The reference's frame: it names no semaphore. -/
theorem frame_ref : Cert.quiescent_ReferenceIdeal := fun m ρ _ =>
  (θ_run defs _ _).mono (fun r h => ⟨fun c => (h c).2, sem_eq_zero_of_no_sems (by decide) r.2⟩) (ref_run m ρ)

end Cert.Proj

end

end
-- ==== Proof.lean ====
/- The proof of the certificate's claims: each conjunct from a run of its program. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.FfnOut
public import proofs.«01_k».proof.Proof.Gen.FfnOutIdeal
public import proofs.«01_k».proof.Proof.Gen.FfnOutIdeal.Frame
public import proofs.«01_k».proof.Proof.FfnOut.Kernel
public import proofs.«01_k».proof.Proof.FfnOut.Reference
public import proofs.«01_k».proof.Proof.Merge.Kernel
public import proofs.«01_k».proof.Proof.Merge.Reference
public import proofs.«01_k».proof.Proof.Ssd.Kernel
public import proofs.«01_k».proof.Proof.Ssd.Reference
public import proofs.«01_k».proof.Proof.Gen.FfnOutRefIdeal
public import proofs.«01_k».proof.Proof.Gen.FfnOutRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.On_real_rows
public import proofs.«01_k».proof.Proof.Gen.FfnIn
public import proofs.«01_k».proof.Proof.Gen.FfnInIdeal
public import proofs.«01_k».proof.Proof.Gen.FfnInIdeal.Launch
public import proofs.«01_k».proof.Proof.Gen.FfnInIdeal.Skeleton
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import proofs.«01_k».proof.Proof.Gen.SsdRefIdeal
public import proofs.«01_k».proof.Proof.Gen.SsdRefIdeal.Run
public import proofs.«01_k».proof.Proof.FfnIn.Kernel
public import proofs.«01_k».proof.Proof.FfnIn.Reference
public import proofs.«01_k».proof.Proof.Proj.Kernel
public import proofs.«01_k».proof.Proof.Proj.Reference
public import Idealize.ShloMosaic.Lib.Claim

@[expose] public section

noncomputable section

namespace Cert.Proof

open Idealize.ShloMosaic Idealize.SL.Sem

/-- The kernel and the reference both leave the projection. -/
theorem projection : Cert.algebraic_KernelIdeal_ReferenceIdeal := by
  pair_intro
  · run_from Cert.Proj.run m g
  · run_from Cert.Proj.ref_run m' g'

set_option smartUnfolding false in
/-- The two feed-forward programs are one text, so one run serves both. -/
theorem frame_out : Cert.quiescent_FfnOut := fun m ρ _ =>
  (θ_run Cert.FfnOutIdeal.defs _ _).mono (fun _ h => h) (Cert.FfnOutIdeal.Body.frame (F := Bits) m ρ)

theorem frame_out_ideal : Cert.quiescent_FfnOutIdeal := fun m ρ _ => Cert.FfnOutIdeal.Body.frame m ρ

/-- The second feed-forward kernel and its reference both leave the rows normalised. -/
theorem feedForward : Cert.algebraic_FfnOutIdeal_FfnOutRefIdeal := by
  pair_intro
  · run_from Cert.Ffn.run m g
  · run_from Cert.Ffn.ref_run m' g'

/-- The mask is the rows before 8448. -/
theorem real_rows {x0 x1 x2 x3 x4 x5 x6 x7 x8 x9 x10 x11} (i : Cert.On_real_rows.S8704x2048.Idx)
    (h : Cert.On_real_rows.fn (F := Ideal) x0 x1 x2 x3 x4 x5 x6 x7 x8 x9 x10 x11 i = 1#1) : (i 0).val < 8448 := by
  have key : ∀ r : Fin 8704, IntOp.cmpi .slt (BitVec.ofNat 32 r.val) 8448#32 = 1#1 → r.val < 8448 := by decide +kernel
  exact key (i 0) h

/-- The merge and its reference leave the same rows of frames and samples. -/
theorem merging : Cert.algebraic_MergeIdeal_MergeRefIdeal_on_real_rows := by
  intro m g m' g' _ h
  refine ⟨fun c => Cert.Merging.out (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)),
    (θ_run Cert.MergeIdeal.defs _ _).mono (fun r hr c => ⟨fun i _ => congrFun (hr c).1 i, (hr c).2⟩) (Cert.Merging.run m g),
    (θ_run Cert.MergeRefIdeal.defs _ _).mono (fun r hr c => ⟨fun i hi => ((hr c).1 i (real_rows i hi)).trans ?_, (hr c).2⟩) (Cert.Merging.ref_run m' g')⟩
  obtain ⟨h0, h1, h2, h3, h4, h5, h6, h7, h8, h9, h10, h11⟩ := h c
  rw [h0, h1, h2, h3, h4, h5, h6, h7, h8, h9, h10, h11]

set_option smartUnfolding false in
/-- The two texts of the first feed-forward block are one, so one run serves both. -/
theorem frame_in : Cert.quiescent_FfnIn := fun m ρ _ =>
  (θ_run Cert.FfnInIdeal.defs _ _).mono (fun _ h => h) (Cert.FfnInIdeal.Body.frame (F := Bits) m ρ)

theorem frame_in_ideal : Cert.quiescent_FfnInIdeal := fun m ρ _ => Cert.FfnInIdeal.Body.frame m ρ

/-- The first feed-forward kernel and its reference both leave the rows normalised and the weight transposed. -/
theorem firstFeedForward : Cert.algebraic_FfnInIdeal_FfnInRefIdeal := by
  intro m g m' g' _ h
  refine ⟨fun c => Cert.First.out (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)),
    fun c => Cert.First.outNarrow (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)),
    fun c => Cert.First.turned (m ((c.tc : Thread Cert.FfnInIdeal.nD Cert.FfnInIdeal.τ).loc Cert.FfnInIdeal.main_arg7)),
    Cert.First.run m g,
    (θ_run Cert.FfnInRefIdeal.defs _ _).mono (fun r hr c => ?_) (Cert.First.ref_run m' g')⟩
  obtain ⟨h0, h1, h2, h3, h4, h5, h6, h7⟩ := h c
  beta_reduce
  rw [← h0, ← h1, ← h2, ← h3, ← h4, ← h5, ← h6, ← h7]
  exact hr c

/-- The samples' mixer and its reference hand on the same rows of the convolution. -/
theorem convolutionState : Cert.algebraic_SsdIdeal_SsdRefIdeal := by
  pair_intro
  · run_from Cert.SsdState.run m g
  · run_from Cert.SsdState.ref_run m' g'

/-- The certificate's claims. -/
theorem claim : Cert.Claim :=
  ⟨Cert.Kernel.Gen.facts, Cert.KernelIdeal.Gen.facts, Cert.ReferenceIdeal.Gen.facts, Cert.FfnOut.Gen.facts, Cert.FfnOutIdeal.Gen.facts, Cert.FfnOutRefIdeal.Gen.facts,
    Cert.Merge.Gen.facts, Cert.MergeIdeal.Gen.facts, Cert.MergeRefIdeal.Gen.facts, Cert.FfnIn.Gen.facts, Cert.FfnInIdeal.Gen.facts, Cert.FfnInRefIdeal.Gen.facts,
    Cert.Ssd.Gen.facts, Cert.SsdIdeal.Gen.facts, Cert.SsdRefIdeal.Gen.facts,
    Cert.On_real_rows.Gen.facts,
    fun m ρ _ => Cert.Kernel.Gen.frame m ρ, fun m ρ _ => Cert.KernelIdeal.Gen.frame m ρ, Cert.Proj.frame_ref, frame_out, frame_out_ideal, Cert.Ffn.frame_ref,
    fun m ρ _ => Cert.Merge.Gen.frame m ρ, fun m ρ _ => Cert.MergeIdeal.Gen.frame m ρ, Cert.Merging.frame_ref,
    frame_in, frame_in_ideal, Cert.First.frame_ref,
    fun m ρ _ => Cert.Ssd.Gen.frame m ρ, fun m ρ _ => Cert.SsdIdeal.Gen.frame m ρ, Cert.SsdState.frame_ref,
    trivial, projection, trivial, feedForward, trivial, merging, trivial, firstFeedForward,
    trivial, convolutionState⟩

end Cert.Proof

end

end
